-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x1536x2048 : Shape := ⟨3, ![8, 1536, 2048]⟩
abbrev S2048x8192 : Shape := ⟨2, ![2048, 8192]⟩
abbrev S16x64 : Shape := ⟨2, ![16, 64]⟩
abbrev S8x1536x8192 : Shape := ⟨3, ![8, 1536, 8192]⟩
abbrev S8192 : Shape := ⟨1, ![8192]⟩
abbrev S_ : Shape := ⟨0, ![]⟩

class Facts : Prop where
  bcast_S_S8x1536x2048 : S_.BroadcastsInDim S8x1536x2048 (![] : Fin 0 → Fin S8x1536x2048.rank)
  reducesTo_S8x1536x2048_S_d0_1_2 : S8x1536x2048.ReducesTo [0, 1, 2] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x1536x2048 .bf16) (main_arg1 : FVec F S2048x8192 .fp8e4m3) (main_arg2 : FVec F S16x64 .f32) (main_arg3 : FVec F S8x1536x8192 .bf16) (main_arg4 : FVec F S8192 .bf16) : IVec S_ 1 :=
  let main_v0 : FVec F S8x1536x2048 .bf16 := Host.absf main_arg0
  let main_cst : FVec F S_ .bf16 := constant S_ .bf16 0x7F7F#16
  let main_v1 : FVec F S8x1536x2048 .bf16 := broadcastInDim S8x1536x2048 ![] bcast_S_S8x1536x2048 main_cst
  let main_v2 : IVec S8x1536x2048 1 := cmpf .ole main_v0 main_v1
  let main_c : IVec S_ 1 := constantI S_ 1 1#1
  let main_v3 : IVec S_ 1 := (fun x v => Host.reduce IntOp.andi x v reducesTo_S8x1536x2048_S_d0_1_2 h_S_) main_v2 main_c
  let main_v4 : FVec F S8192 .bf16 := Host.absf main_arg4
  let main_cst_0 : FVec F S_ .bf16 := constant S_ .bf16 0x7F7F#16
  let main_v5 : FVec F S8192 .bf16 := broadcastInDim S8192 ![] bcast_S_S8192 main_cst_0
  let main_v6 : IVec S8192 1 := cmpf .ole main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8x1536x2048 : Shape := ⟨3, ![8, 1536, 2048]⟩
abbrev S2048x8192 : Shape := ⟨2, ![2048, 8192]⟩
abbrev S16x64 : Shape := ⟨2, ![16, 64]⟩
abbrev S8x1536x8192 : Shape := ⟨3, ![8, 1536, 8192]⟩
abbrev S8192 : Shape := ⟨1, ![8192]⟩
abbrev S16x64x128 : Shape := ⟨3, ![16, 64, 128]⟩
abbrev S16x8192 : Shape := ⟨2, ![16, 8192]⟩
abbrev S12288x2048 : Shape := ⟨2, ![12288, 2048]⟩
abbrev S1x2048x8192 : Shape := ⟨3, ![1, 2048, 8192]⟩
abbrev S12288x8192 : Shape := ⟨2, ![12288, 8192]⟩
abbrev S1x8192 : Shape := ⟨2, ![1, 8192]⟩
abbrev S12288x16 : Shape := ⟨2, ![12288, 16]⟩
abbrev S12288x1 : Shape := ⟨2, ![12288, 1]⟩
abbrev S128x2048 : Shape := ⟨2, ![128, 2048]⟩
abbrev S128x8192 : Shape := ⟨2, ![128, 8192]⟩
abbrev S128x16 : Shape := ⟨2, ![128, 16]⟩
abbrev S128x1 : Shape := ⟨2, ![128, 1]⟩
abbrev S2x2048x512 : Shape := ⟨3, ![2, 2048, 512]⟩
abbrev S2 : Shape := ⟨1, ![2]⟩
abbrev S1 : Shape := ⟨1, ![1]⟩
abbrev S_ : Shape := ⟨0, ![]⟩
abbrev S1x2048x512 : Shape := ⟨3, ![1, 2048, 512]⟩
abbrev S1x512 : Shape := ⟨2, ![1, 512]⟩
abbrev S1x128x512 : Shape := ⟨3, ![1, 128, 512]⟩
abbrev S128x512 : Shape := ⟨2, ![128, 512]⟩
abbrev S32x128 : Shape := ⟨2, ![32, 128]⟩
abbrev S32 : Shape := ⟨1, ![32]⟩
abbrev S32x1 : Shape := ⟨2, ![32, 1]⟩
abbrev S32x16 : Shape := ⟨2, ![32, 16]⟩
abbrev S2048x512 : Shape := ⟨2, ![2048, 512]⟩
abbrev S1x128 : Shape := ⟨2, ![1, 128]⟩

abbrev nBuf : Space → Nat
  | .hbm => 17
  | .vmem => 19
  | .smem => 0
  | _ => 0

abbrev bufTy : (tb : Table) → Fin (tcTables nBuf tb) → BufTy
  | .hbm, ⟨0, _⟩ => ⟨S8x1536x2048, .bf16⟩
  | .hbm, ⟨1, _⟩ => ⟨S2048x8192, .fp8e4m3⟩
  | .hbm, ⟨2, _⟩ => ⟨S16x64, .f32⟩
  | .hbm, ⟨3, _⟩ => ⟨S8x1536x8192, .bf16⟩
  | .hbm, ⟨4, _⟩ => ⟨S8192, .bf16⟩
  | .hbm, ⟨5, _⟩ => ⟨S16x64x128, .f32⟩
  | .hbm, ⟨6, _⟩ => ⟨S16x8192, .f32⟩
  | .hbm, ⟨7, _⟩ => ⟨S16x8192, .bf16⟩
  | .hbm, ⟨8, _⟩ => ⟨S12288x2048, .bf16⟩
  | .hbm, ⟨9, _⟩ => ⟨S1x2048x8192, .fp8e4m3⟩
  | .hbm, ⟨10, _⟩ => ⟨S12288x8192, .bf16⟩
  | .hbm, ⟨11, _⟩ => ⟨S1x8192, .bf16⟩
  | .hbm, ⟨12, _⟩ => ⟨S12288x8192, .bf16⟩
  | .hbm, ⟨13, _⟩ => ⟨S12288x2048, .fp8e4m3⟩
  | .hbm, ⟨14, _⟩ => ⟨S12288x16, .f32⟩
  | .hbm, ⟨15, _⟩ => ⟨S12288x8192, .fp8e4m3⟩
  | .hbm, ⟨16, _⟩ => ⟨S12288x1, .f32⟩
  | .local _ .vmem, ⟨0, _⟩ => ⟨S128x2048, .bf16⟩
  | .local _ .vmem, ⟨1, _⟩ => ⟨S128x2048, .bf16⟩
  | .local _ .vmem, ⟨2, _⟩ => ⟨S16x8192, .bf16⟩
  | .local _ .vmem, ⟨3, _⟩ => ⟨S128x8192, .bf16⟩
  | .local _ .vmem, ⟨4, _⟩ => ⟨S128x8192, .bf16⟩
  | .local _ .vmem, ⟨5, _⟩ => ⟨S1x8192, .bf16⟩
  | .local _ .vmem, ⟨6, _⟩ => ⟨S128x8192, .bf16⟩
  | .local _ .vmem, ⟨7, _⟩ => ⟨S128x8192, .bf16⟩
  | .local _ .vmem, ⟨8, _⟩ => ⟨S128x2048, .fp8e4m3⟩
  | .local _ .vmem, ⟨9, _⟩ => ⟨S128x2048, .fp8e4m3⟩
  | .local _ .vmem, ⟨10, _⟩ => ⟨S128x16, .f32⟩
  | .local _ .vmem, ⟨11, _⟩ => ⟨S128x16, .f32⟩
  | .local _ .vmem, ⟨12, _⟩ => ⟨S128x8192, .fp8e4m3⟩
  | .local _ .vmem, ⟨13, _⟩ => ⟨S128x8192, .fp8e4m3⟩
  | .local _ .vmem, ⟨14, _⟩ => ⟨S128x1, .f32⟩
  | .local _ .vmem, ⟨15, _⟩ => ⟨S128x1, .f32⟩
  | .local _ .vmem, ⟨16, _⟩ => ⟨S2048x8192, .bf16⟩
  | .local _ .vmem, ⟨17, _⟩ => ⟨S2x2048x512, .fp8e4m3⟩
  | .local _ .vmem, ⟨18, _⟩ => ⟨S128x2048, .bf16⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x1536x2048 : Shape := ⟨3, ![8, 1536, 2048]⟩
abbrev S2048x8192 : Shape := ⟨2, ![2048, 8192]⟩
abbrev S16x64 : Shape := ⟨2, ![16, 64]⟩
abbrev S8x1536x8192 : Shape := ⟨3, ![8, 1536, 8192]⟩
abbrev S8192 : Shape := ⟨1, ![8192]⟩
abbrev S12288x2048 : Shape := ⟨2, ![12288, 2048]⟩
abbrev S12288x8192 : Shape := ⟨2, ![12288, 8192]⟩
abbrev S1x8192 : Shape := ⟨2, ![1, 8192]⟩
abbrev S12288x16 : Shape := ⟨2, ![12288, 16]⟩
abbrev S12288x1 : Shape := ⟨2, ![12288, 1]⟩
abbrev S12288x16x128 : Shape := ⟨3, ![12288, 16, 128]⟩
abbrev S12288x16x252 : Shape := ⟨3, ![12288, 16, 252]⟩
abbrev S12288x16x1 : Shape := ⟨3, ![12288, 16, 1]⟩
abbrev S16x128x64x128 : Shape := ⟨4, ![16, 128, 64, 128]⟩
abbrev S16x1x64x1 : Shape := ⟨4, ![16, 1, 64, 1]⟩
abbrev S12288 : Shape := ⟨1, ![12288]⟩
abbrev S12288x1x8192 : Shape := ⟨3, ![12288, 1, 8192]⟩
abbrev S12288x1x252 : Shape := ⟨3, ![12288, 1, 252]⟩
abbrev S12288x1x1 : Shape := ⟨3, ![12288, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x1536x2048, .bf16⟩
  | .hbm, ⟨1, _⟩ => ⟨S2048x8192, .fp8e4m3⟩
  | .hbm, ⟨2, _⟩ => ⟨S16x64, .f32⟩
  | .hbm, ⟨3, _⟩ => ⟨S8x1536x8192, .bf16⟩
  | .hbm, ⟨4, _⟩ => ⟨S8192, .bf16⟩
  | .hbm, ⟨5, _⟩ => ⟨S12288x2048, .bf16⟩
  | .hbm, ⟨6, _⟩ => ⟨S12288x8192, .bf16⟩
  | .hbm, ⟨7, _⟩ => ⟨S1x8192, .bf16⟩
  | .hbm, ⟨8, _⟩ => ⟨S12288x8192, .bf16⟩
  | .hbm, ⟨9, _⟩ => ⟨S12288x2048, .fp8e4m3⟩
  | .hbm, ⟨10, _⟩ => ⟨S12288x16, .f32⟩
  | .hbm, ⟨11, _⟩ => ⟨S12288x8192, .fp8e4m3⟩
  | .hbm, ⟨12, _⟩ => ⟨S12288x1, .f32⟩
  | .local _ .vmem, ⟨0, _⟩ => ⟨S12288x2048, .bf16⟩
  | .local _ .vmem, ⟨1, _⟩ => ⟨S2048x8192, .fp8e4m3⟩
  | .local _ .vmem, ⟨2, _⟩ => ⟨S16x64, .f32⟩
  | .local _ .vmem, ⟨3, _⟩ => ⟨S12288x8192, .bf16⟩
  | .local _ .vmem, ⟨4, _⟩ => ⟨S1x8192, .bf16⟩
  | .local _ .vmem, ⟨5, _⟩ => ⟨S12288x8192, .bf16⟩
  | .local _ .vmem, ⟨6, _⟩ => ⟨S12288x2048, .fp8e4m3⟩
  | .local _ .vmem, ⟨7, _⟩ => ⟨S12288x16, .f32⟩
  | .local _ .vmem, ⟨8, _⟩ => ⟨S12288x8192, .fp8e4m3⟩
  | .local _ .vmem, ⟨9, _⟩ => ⟨S12288x1, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Uniform.lean ====
/- What one grid point of the kernel computes, as functions of what it loads, and the lists of the pieces it stores, each given by
   one formula in the piece's number (the last piece stored comes first in a list). -/
module

public import proofs.«01_k».proof.Proof.Gen.KernelIdeal.Skeleton
public import Idealize.ShloMosaic.Lib.IdealHost

@[expose] public section

set_option maxRecDepth 16384

noncomputable section

namespace Cert.KernelIdeal.Gen

open Idealize.ShloMosaic Idealize.ShloMosaic.TcCoe Idealize.ShloMosaic.Tactic

variable {F : FTy → Type} [FloatOps F]

/-- The values `f (n-1), …, f 0`, the last one first. -/
def pieces {α : Type*} (f : ℕ → α) (n : ℕ) : List α := Nat.rec [] (fun k L => f k :: L) n

/-- A running combination: `z`, then `g 0 z`, then `g 1 (g 0 z)`, … -/
def running {α : Type*} (z : α) (g : ℕ → α → α) (n : ℕ) : α := Nat.rec z (fun k a => g k a) n

@[simp] theorem pieces_zero {α : Type*} (f : ℕ → α) : pieces f 0 = [] := rfl
@[simp] theorem pieces_succ {α : Type*} (f : ℕ → α) (n : ℕ) : pieces f (n + 1) = f n :: pieces f n := rfl
@[simp] theorem running_zero {α : Type*} (z : α) (g : ℕ → α → α) : running z g 0 = z := rfl
@[simp] theorem running_succ {α : Type*} (z : α) (g : ℕ → α → α) (n : ℕ) : running z g (n + 1) = g n (running z g n) := rfl

theorem mem_pieces {α : Type*} (f : ℕ → α) (n : ℕ) (x : α) : x ∈ pieces f n ↔ ∃ k < n, x = f k := by
  induction n with
  | zero => simp
  | succ n ih =>
    rw [pieces_succ, List.mem_cons, ih]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with h | rfl
      · exact Or.inr ⟨k, h, rfl⟩
      · exact Or.inl rfl

/-! ## The rectangles -/

/-- Rows `32 p …` of the 128-column block `n` of an array of 128 rows and 8192 columns. -/
abbrev rWide (p n : ℕ) : Rect S128x8192 := Rect.unit (s := S128x8192) ![32 * (p % 4), 128 * (n % 64)] S32x128.size
  (Rect.inb₂ (show 32 * (p % 4) + 32 ≤ 128 by omega) (show 128 * (n % 64) + 128 ≤ 8192 by omega))

/-- Rows `32 p …` of the 128-column block `b` of an array of 128 rows and 2048 columns. -/
abbrev rX (p b : ℕ) : Rect S128x2048 := Rect.unit (s := S128x2048) ![32 * (p % 4), 128 * (b % 16)] S32x128.size
  (Rect.inb₂ (show 32 * (p % 4) + 32 ≤ 128 by omega) (show 128 * (b % 16) + 128 ≤ 2048 by omega))

/-- Rows `32 p …` of an array of 128 rows and 16 columns. -/
abbrev rS (p : ℕ) : Rect S128x16 := Rect.unit (s := S128x16) ![32 * (p % 4), 0] S32x16.size
  (Rect.inb₂ (show 32 * (p % 4) + 32 ≤ 128 by omega) (show 0 + 16 ≤ 16 by omega))

/-- Rows `32 p …` of a column of 128 rows. -/
abbrev rT (p : ℕ) : Rect S128x1 := Rect.unit (s := S128x1) ![32 * (p % 4), 0] S32x1.size
  (Rect.inb₂ (show 32 * (p % 4) + 32 ≤ 128 by omega) (show 0 + 1 ≤ 1 by omega))

/-- Columns `128 n …` of a row of 8192 columns. -/
abbrev rG (n : ℕ) : Rect S1x8192 := Rect.unit (s := S1x8192) ![0, 128 * (n % 64)] S1x128.size
  (Rect.inb₂ (show 0 + 1 ≤ 1 by omega) (show 128 * (n % 64) + 128 ≤ 8192 by omega))

/-- Columns `512 c …` of the dequantised weight. -/
abbrev rW (c : ℕ) : Rect S2048x8192 := Rect.unit (s := S2048x8192) ![0, 512 * (c % 16)] S2048x512.size
  (Rect.inb₂ (show 0 + 2048 ≤ 2048 by omega) (show 512 * (c % 16) + 512 ≤ 8192 by omega))

/-- The whole of the dequantised block of `x`. -/
abbrev rXW : Rect S128x2048 := Rect.unit (s := S128x2048) ![0, 0] S128x2048.size
  (Rect.inb₂ (show 0 + 128 ≤ 128 by omega) (show 0 + 2048 ≤ 2048 by omega))

/-! ## The power-of-two scale -/

/-- One step of the search for the exponent field: the bit `k` is kept where the power of two it gives is at most `v`. -/
def vstep (v : FVec F S32x128 .f32) (e : IVec S32x128 32) (k : BitVec 32) : IVec S32x128 32 :=
  select (cmpf .oge v (bitcastToFloat .f32 (addi e (broadcast S32x128 k)))) (addi e (broadcast S32x128 k)) e

/-- The exponent field of the largest power of two that is at most `v`. -/
def vfield (v : FVec F S32x128 .f32) : IVec S32x128 32 :=
  vstep v (vstep v (vstep v (vstep v (vstep v (vstep v (vstep v (vstep v (broadcast S32x128 0#32)
    1073741824#32) 536870912#32) 268435456#32) 134217728#32) 67108864#32) 33554432#32) 16777216#32) 8388608#32

/-- Where the scale is one instead. -/
def vplain (v : FVec F S32x128 .f32) : IVec S32x128 1 :=
  ori (cmpi .eq (vfield v) (broadcast S32x128 0#32)) (cmpi .eq (vfield v) (broadcast S32x128 2139095040#32))

/-- The scale of `v`. -/
def vscale (v : FVec F S32x128 .f32) : FVec F S32x128 .f32 :=
  select (vplain v) (broadcast S32x128 (Scalar.ofBits .f32 0x3F800000#32))
    (bitcastToFloat .f32 (addi (vfield v) (broadcast S32x128 8388608#32)))

/-- The inverse of the scale of `v`. -/
def vinv (v : FVec F S32x128 .f32) : FVec F S32x128 .f32 :=
  select (vplain v) (broadcast S32x128 (Scalar.ofBits .f32 0x3F800000#32))
    (bitcastToFloat .f32 (subi (broadcast S32x128 2122317824#32) (vfield v)))

/-! ## The block of `x` -/

/-- A block of `x` as loaded. -/
def xblk (x : Vec F S32x128 .bf16) : FVec F S32x128 .bf16 := shapeCast S32x128 x shapeCasts_S32x128_S32x128

/-- Each row's largest magnitude over 448, spread along the row. -/
def xval (x : Vec F S32x128 .bf16) : FVec F S32x128 .f32 :=
  mulf (broadcastTo S32x128 (shapeCast S32x1 (shapeCast S32x1
    (multiReduction .maximumf [1] S32 (extf .f32 (absf (xblk x)) bitsLt_bf16_f32) 0xFF800000#32 reduces_S32x128_S32 (.inl rfl) rfl)
    shapeCasts_S32_S32x1) shapeCasts_S32x1_S32x1) broadcasts_S32x1_S32x128) (broadcast S32x128 (Scalar.ofBits .f32 0x3B124925#32))

/-- The codes of a block of `x`. -/
def xcode (x : Vec F S32x128 .bf16) : FVec F S32x128 .fp8e4m3 :=
  truncf .fp8e4m3 (minimumf (broadcast S32x128 (Scalar.truncf .bf16 bitsLt_bf16_f32 (Scalar.ofBits .f32 0x43E00000#32)))
    (maximumf (broadcast S32x128 (Scalar.truncf .bf16 bitsLt_bf16_f32 (Scalar.ofBits .f32 0xC3E00000#32)))
      (mulf (xblk x) (truncf .bf16 (vinv (xval x)) bitsLt_bf16_f32)))) bitsLt_fp8e4m3_bf16

/-- The dequantised block of `x`. -/
def xdeq (x : Vec F S32x128 .bf16) : FVec F S32x128 .bf16 :=
  shapeCast S32x128 (mulf (extf .bf16 (xcode x) bitsLt_fp8e4m3_bf16) (truncf .bf16 (vscale (xval x)) bitsLt_bf16_f32)) shapeCasts_S32x128_S32x128

/-- The scales of the 16 blocks of 32 rows of `x`. -/
def xscales (x : ℕ → Vec F S32x128 .bf16) : FVec F S32x16 .f32 :=
  extractStridedSlice S32x16 ![0, 0] (running (broadcast S32x128 (Scalar.ofBits .f32 0x00000000#32))
    (fun b a => select (cmpi .eq (iota .tc S32x128 32 [1] iota_S32x128_d1_w32) (broadcast S32x128 (BitVec.ofNat 32 b))) (vscale (xval (x b))) a) 16)
    slices_S32x128_o0_0_S32x16

/-! ## The product, the residual and what is kept of it -/

/-- The product of the dequantised block of `x` and a slab of the dequantised weight. -/
def prod (xw : Vec F S128x2048 .bf16) (w : Vec F S2048x512 .bf16) : FVec F S128x512 .f32 :=
  matmul dot_S128x2048_S2048x512_S128x512_1_0_0_1_n_n none xw w (constant S128x512 .f32 0x00000000#32)

theorem slices_prod (p q : ℕ) : S128x512.Slices ![32 * (p % 4), 128 * (q % 4)] S32x128 :=
  ⟨rfl, Fin.forall_fin_two.mpr ⟨show 32 * (p % 4) + 32 ≤ 128 by omega, show 128 * (q % 4) + 128 ≤ 512 by omega⟩⟩

/-- A part of the product with the residual added. -/
def rout (acc : FVec F S128x512 .f32) (p q : ℕ) (res : Vec F S32x128 .bf16) : FVec F S32x128 .bf16 :=
  truncf .bf16 (addf (extractStridedSlice S32x128 ![32 * (p % 4), 128 * (q % 4)] acc (slices_prod p q))
    (extf .f32 (shapeCast S32x128 res shapeCasts_S32x128_S32x128) bitsLt_bf16_f32)) bitsLt_bf16_f32

/-- A part of the row of gains, spread over the rows. -/
def gains (g : Vec F S1x128 .bf16) : FVec F S32x128 .f32 :=
  broadcastTo S32x128 (extf .f32 (shapeCast S1x128 g shapeCasts_S1x128_S1x128) bitsLt_bf16_f32) broadcasts_S1x128_S32x128

/-- The running sums of squares of 32 rows, one per lane. -/
def sumsq (r : ℕ → FVec F S32x128 .bf16) : FVec F S32x128 .f32 :=
  running (broadcast S32x128 (Scalar.ofBits .f32 0x00000000#32))
    (fun n a => addf a (mulf (extf .f32 (r n) bitsLt_bf16_f32) (extf .f32 (r n) bitsLt_bf16_f32))) 64

/-- The running largest magnitudes of 32 rows times the gains, one per lane. -/
def largest (r : ℕ → FVec F S32x128 .bf16) (g : ℕ → Vec F S1x128 .bf16) : FVec F S32x128 .f32 :=
  running (broadcast S32x128 (Scalar.ofBits .f32 0x00000000#32))
    (fun n a => maximumf a (absf (mulf (extf .f32 (r n) bitsLt_bf16_f32) (gains (g n))))) 64

/-- The factor that normalises each row. -/
def rstd (ss : FVec F S32x128 .f32) : FVec F S32x128 .f32 :=
  broadcastTo S32x128 (shapeCast S32x1 (rsqrt (addf (mulf (shapeCast S32x1
    (multiReduction .add [1] S32 ss 0x00000000#32 reduces_S32x128_S32 (.inl rfl) rfl) shapeCasts_S32_S32x1)
    (broadcast S32x1 (Scalar.ofBits .f32 0x39000000#32))) (broadcast S32x1 (Scalar.ofBits .f32 0x358637BD#32)))) shapeCasts_S32x1_S32x1)
    broadcasts_S32x1_S32x128

/-- Each row's largest normalised magnitude over 448. -/
def yval (am rs : FVec F S32x128 .f32) : FVec F S32x128 .f32 :=
  mulf (mulf (broadcastTo S32x128 (shapeCast S32x1 (shapeCast S32x1
    (multiReduction .maximumf [1] S32 am 0xFF800000#32 reduces_S32x128_S32 (.inl rfl) rfl)
    shapeCasts_S32_S32x1) shapeCasts_S32x1_S32x1) broadcasts_S32x1_S32x128) rs) (broadcast S32x128 (Scalar.ofBits .f32 0x3B124925#32))

/-- The codes of a block of the normalised rows. -/
def ycode (rs v : FVec F S32x128 .f32) (g : Vec F S1x128 .bf16) (r : Vec F S32x128 .bf16) : FVec F S32x128 .fp8e4m3 :=
  truncf .fp8e4m3 (minimumf (broadcast S32x128 (Scalar.ofBits .f32 0x43E00000#32))
    (maximumf (broadcast S32x128 (Scalar.ofBits .f32 0xC3E00000#32))
      (mulf (mulf (mulf (extf .f32 (shapeCast S32x128 r shapeCasts_S32x128_S32x128) bitsLt_bf16_f32) rs) (gains g)) (vinv v)))) bitsLt_fp8e4m3_f32

/-- The row scales of 32 rows. -/
def yscale (v : FVec F S32x128 .f32) : FVec F S32x1 .f32 :=
  extractStridedSlice S32x1 ![0, 0] (vscale v) slices_S32x128_o0_0_S32x1

/-! ## The pieces stored -/

/-- The codes of `x`. -/
def codeL (X : ℕ → ℕ → Vec F S32x128 .bf16) : List (View.Piece (Elt F) S128x2048 .fp8e4m3) :=
  pieces (fun k => ⟨rX (k / 16) (k % 16), xcode (X (k / 16) (k % 16))⟩) 64

/-- The dequantised block of `x`. -/
def deqL (X : ℕ → ℕ → Vec F S32x128 .bf16) : List (View.Piece (Elt F) S128x2048 .bf16) :=
  pieces (fun k => ⟨rX (k / 16) (k % 16), xdeq (X (k / 16) (k % 16))⟩) 64

/-- The scales of `x`. -/
def scaleL (X : ℕ → ℕ → Vec F S32x128 .bf16) : List (View.Piece (Elt F) S128x16 .f32) :=
  pieces (fun p => ⟨rS p, xscales (X p)⟩) 4

/-- The rows with the residual added. -/
def routL (acc : ℕ → FVec F S128x512 .f32) (res : ℕ → ℕ → Vec F S32x128 .bf16) : List (View.Piece (Elt F) S128x8192 .bf16) :=
  pieces (fun k => ⟨rWide (k / 4 % 4) (4 * (k / 16) + k % 4), rout (acc (k / 16)) (k / 4 % 4) (k % 4) (res (k / 4 % 4) (4 * (k / 16) + k % 4))⟩) 256

/-- The part of the rows that the block `n` of the strip `p` is. -/
def rblk (acc : ℕ → FVec F S128x512 .f32) (res : ℕ → ℕ → Vec F S32x128 .bf16) (p n : ℕ) : FVec F S32x128 .bf16 :=
  rout (acc (n / 4)) p (n % 4) (res p n)

/-- The normalising factor of the strip `p`. -/
def rs (acc : ℕ → FVec F S128x512 .f32) (res : ℕ → ℕ → Vec F S32x128 .bf16) (p : ℕ) : FVec F S32x128 .f32 :=
  rstd (sumsq (rblk acc res p))

/-- The scaled magnitude of the strip `p`. -/
def yv (acc : ℕ → FVec F S128x512 .f32) (res : ℕ → ℕ → Vec F S32x128 .bf16) (g : ℕ → Vec F S1x128 .bf16) (p : ℕ) : FVec F S32x128 .f32 :=
  yval (largest (rblk acc res p) g) (rs acc res p)

/-- The codes of the normalised rows, from the rows read back (`ro`). -/
def ycodeL (acc : ℕ → FVec F S128x512 .f32) (res : ℕ → ℕ → Vec F S32x128 .bf16) (g : ℕ → Vec F S1x128 .bf16)
    (ro : ℕ → ℕ → Vec F S32x128 .bf16) : List (View.Piece (Elt F) S128x8192 .fp8e4m3) :=
  pieces (fun k => ⟨rWide (k / 64) (k % 64), ycode (rs acc res (k / 64)) (yv acc res g (k / 64)) (g (k % 64)) (ro (k / 64) (k % 64))⟩) 256

/-- The row scales. -/
def yscaleL (acc : ℕ → FVec F S128x512 .f32) (res : ℕ → ℕ → Vec F S32x128 .bf16) (g : ℕ → Vec F S1x128 .bf16) :
    List (View.Piece (Elt F) S128x1 .f32) :=
  pieces (fun p => ⟨rT p, yscale (yv acc res g p)⟩) 4

/-! ## The weight -/

/-- A block of the dequantised weight. -/
def wdeq (s : Vec F S1x512 .bf16) (w : Vec F S1x128x512 .fp8e4m3) : FVec F S128x512 .bf16 :=
  shapeCast S128x512 (mulf (extf .bf16 (shapeCast S128x512 w shapeCasts_S1x128x512_S128x512) bitsLt_fp8e4m3_bf16)
    (broadcastTo S128x512 (shapeCast S1x512 s shapeCasts_S1x512_S1x512) broadcasts_S1x512_S128x512)) shapeCasts_S128x512_S128x512

/-- The place of a block in the dequantised weight. -/
abbrev rWB (c b : ℕ) : Rect S2048x8192 := Rect.unit (s := S2048x8192) ![128 * (b % 16), 512 * (c % 16)] S128x512.size
  (Rect.inb₂ (show 128 * (b % 16) + 128 ≤ 2048 by omega) (show 512 * (c % 16) + 512 ≤ 8192 by omega))

/-- A row of the scales of the weight. -/
abbrev rWS (c b : ℕ) : Rect S16x8192 := Rect.unit (s := S16x8192) ![b % 16, 512 * (c % 16)] S1x512.size
  (Rect.inb₂ (show b % 16 + 1 ≤ 16 by omega) (show 512 * (c % 16) + 512 ≤ 8192 by omega))

/-- A half of the buffer the chunks of the weight are copied into. -/
abbrev rHalf (c : ℕ) : Rect S2x2048x512 := Rect.unit (s := S2x2048x512) ![c % 2, 0, 0] S1x2048x512.size
  (Fin.forall_fin_succ.mpr ⟨show c % 2 + 1 ≤ 2 by omega, Fin.forall_fin_two.mpr ⟨show 0 + 2048 ≤ 2048 by omega, show 0 + 512 ≤ 512 by omega⟩⟩)

/-- A block of a half of that buffer. -/
abbrev rHB (c b : ℕ) : Rect S2x2048x512 := Rect.unit (s := S2x2048x512) ![c % 2, 128 * (b % 16), 0] S1x128x512.size
  (Fin.forall_fin_succ.mpr ⟨show c % 2 + 1 ≤ 2 by omega,
    Fin.forall_fin_two.mpr ⟨show 128 * (b % 16) + 128 ≤ 2048 by omega, show 0 + 512 ≤ 512 by omega⟩⟩)

/-- The dequantised weight. -/
def weightL (s : ℕ → ℕ → Vec F S1x512 .bf16) (w : ℕ → ℕ → Vec F S1x128x512 .fp8e4m3) : List (View.Piece (Elt F) S2048x8192 .bf16) :=
  pieces (fun k => ⟨rWB (k / 16) (k % 16), wdeq (s (k / 16) (k % 16)) (w (k / 16) (k % 16))⟩) 256

end Cert.KernelIdeal.Gen
-- ==== Proof.Scale.lean ====
/- The power-of-two scale of a quantiser, at the ideal instance: the largest exponent field not above
   a value, found by eight compares, gives the least power of two above the value and its reciprocal. -/
module

public import Idealize.ShloMosaic.Lib.IdealHost

@[expose] public section

noncomputable section

namespace Cert.Scale

open Idealize.ShloMosaic

/-! ## The value of an exponent field alone -/

/-- The value of the f32 pattern with exponent field `n` and nothing else. -/
def pw (n : ℕ) : EReal := if n = 0 then 0 else if 255 ≤ n then ⊤ else (((2 : ℝ) ^ ((n : ℤ) - 127) : ℝ) : EReal)

/-- The word with exponent field `n`. -/
def word (n : ℕ) : BitVec 32 := BitVec.ofNat 32 (8388608 * n)

theorem word_add (a b : ℕ) : word a + word b = word (a + b) := by
  unfold word; rw [← BitVec.ofNat_add, Nat.mul_add]

theorem toNat_word (n : ℕ) (h : n < 256) : (word n).toNat = 8388608 * n := by
  unfold word; rw [BitVec.toNat_ofNat, Nat.mod_eq_of_lt (by omega)]

theorem word_fields (n : ℕ) (h : n < 256) : ((word n).extractLsb' 23 8).toNat = n ∧ ((word n).extractLsb' 0 23).toNat = 0
    ∧ ((word n).extractLsb' (8 + 23) 1).toNat = 0 := by
  have e := toNat_word n h
  simp only [BitVec.extractLsb'_toNat, Nat.shiftRight_eq_div_pow, e]
  refine ⟨?_, ?_, ?_⟩
  · rw [show (2 : ℕ) ^ 23 = 8388608 by norm_num, show (2 : ℕ) ^ 8 = 256 by norm_num]; omega
  · rw [show (2 : ℕ) ^ 23 = 8388608 by norm_num, pow_zero]; omega
  · rw [show (2 : ℕ) ^ (8 + 23) = 2147483648 by norm_num, pow_one]; omega

theorem ofBits_word (n : ℕ) (h : n < 256) : Ideal.ofBits .f32 (word n) = pw n := by
  obtain ⟨hx, hf, hn⟩ := word_fields n h
  have hn' : ((word n).extractLsb' (8 + 23) 1 == 1#1) = false := by
    rw [beq_eq_false_iff_ne]; intro e
    rw [e] at hn; exact absurd hn (by decide)
  show Ideal.ieee 8 23 (word n) = _
  unfold Ideal.ieee
  simp only [hx, hf, hn', Bool.false_eq_true, if_false, one_mul, Nat.cast_zero, zero_mul, mul_zero, add_zero, if_true]
  unfold pw
  by_cases h0 : n = 0
  · subst h0; norm_num
  · by_cases h1 : n = 255
    · subst h1; norm_num
    · have a1 : ¬ n = 2 ^ 8 - 1 := by norm_num; exact h1
      have a2 : ¬ 255 ≤ n := by omega
      rw [if_neg a1, if_neg h0, if_neg h0, if_neg a2, Nat.cast_pow, Nat.cast_ofNat, ← zpow_natCast (2 : ℝ) 23, ← zpow_add₀ (by norm_num)]
      congr 2; push_cast; ring

theorem pw_pos_le {n : ℕ} (h : n ≠ 0) : 0 < pw n := by
  unfold pw; rw [if_neg h]; split
  · exact EReal.zero_lt_top
  · exact EReal.coe_pos.mpr (by positivity)

theorem pw_mono {a b : ℕ} (h : a ≤ b) : pw a ≤ pw b := by
  by_cases ha : a = 0
  · subst ha; by_cases hb : b = 0
    · subst hb; exact le_rfl
    · exact (pw_pos_le hb).le
  · have hb0 : ¬b = 0 := by omega
    unfold pw; rw [if_neg ha, if_neg hb0]
    by_cases hb : 255 ≤ b
    · rw [if_pos hb]; exact le_top
    · have ha' : ¬255 ≤ a := by omega
      rw [if_neg hb, if_neg ha']
      exact EReal.coe_le_coe_iff.mpr (zpow_le_zpow_right₀ (by norm_num) (by omega))

/-! ## The compares -/

/-- One compare: keep the larger exponent field where its value is not above `v`. -/
def step (v : EReal) (k : BitVec 32) (e : BitVec 32) : BitVec 32 :=
  Scalar.select (Ideal.cmp .oge v (Ideal.ofBits .f32 (IntOp.addi e k))) (IntOp.addi e k) e

/-- The eight compares. -/
def field (v : EReal) : BitVec 32 :=
  step v 8388608#32 (step v 16777216#32 (step v 33554432#32 (step v 67108864#32 (step v 134217728#32
    (step v 268435456#32 (step v 536870912#32 (step v 1073741824#32 0#32)))))))

theorem step_word {v : EReal} {e k w : ℕ} (hk : k = w + w) (hw : e + w < 256) (h : pw e ≤ v) (h' : v < pw (e + k) ∨ e + k = 256) :
    ∃ e', step v (word w) (word e) = word e' ∧ e' ≤ e + w ∧ pw e' ≤ v ∧ (v < pw (e' + w) ∨ e' + w = 256) := by
  unfold step
  simp only [IntOp.addi, word_add, ofBits_word _ hw, Ideal.cmp, Scalar.select]
  by_cases hc : pw (e + w) ≤ v
  · exact ⟨e + w, by simp [hc], le_rfl, hc, by rw [show e + w + w = e + k by omega]; exact h'⟩
  · exact ⟨e, by simp [hc], by omega, h, .inl (not_le.mp hc)⟩

/-- The field found is the largest whose value is not above `v`. -/
theorem field_spec {v : EReal} (h0 : 0 ≤ v) : ∃ e, field v = word e ∧ e ≤ 255 ∧ pw e ≤ v ∧ (v < pw (e + 1) ∨ e + 1 = 256) := by
  have z : pw 0 ≤ v := by simpa [pw] using h0
  obtain ⟨a, ha, la, pa, qa⟩ := step_word (v := v) (e := 0) (k := 256) (w := 128) rfl (by omega) z (.inr rfl)
  obtain ⟨b, hb, lb, pb, qb⟩ := step_word (v := v) (e := a) (k := 128) (w := 64) rfl (by omega) pa qa
  obtain ⟨c, hc, lc, pc, qc⟩ := step_word (v := v) (e := b) (k := 64) (w := 32) rfl (by omega) pb qb
  obtain ⟨d, hd, ld, pd, qd⟩ := step_word (v := v) (e := c) (k := 32) (w := 16) rfl (by omega) pc qc
  obtain ⟨f, hf, lf, pf, qf⟩ := step_word (v := v) (e := d) (k := 16) (w := 8) rfl (by omega) pd qd
  obtain ⟨g, hg, lg, pg, qg⟩ := step_word (v := v) (e := f) (k := 8) (w := 4) rfl (by omega) pf qf
  obtain ⟨i, hi, li, pi, qi⟩ := step_word (v := v) (e := g) (k := 4) (w := 2) rfl (by omega) pg qg
  obtain ⟨j, hj, lj, pj, qj⟩ := step_word (v := v) (e := i) (k := 2) (w := 1) rfl (by omega) pi qi
  refine ⟨j, ?_, by omega, pj, qj⟩
  unfold field
  have e0 : (0#32 : BitVec 32) = word 0 := by simp [word]
  have e1 : (1073741824#32 : BitVec 32) = word 128 := by simp [word]
  have e2 : (536870912#32 : BitVec 32) = word 64 := by simp [word]
  have e3 : (268435456#32 : BitVec 32) = word 32 := by simp [word]
  have e4 : (134217728#32 : BitVec 32) = word 16 := by simp [word]
  have e5 : (67108864#32 : BitVec 32) = word 8 := by simp [word]
  have e6 : (33554432#32 : BitVec 32) = word 4 := by simp [word]
  have e7 : (16777216#32 : BitVec 32) = word 2 := by simp [word]
  have e8 : (8388608#32 : BitVec 32) = word 1 := by simp [word]
  rw [e0, e1, e2, e3, e4, e5, e6, e7, e8, ha, hb, hc, hd, hf, hg, hi, hj]

/-- Whether the field is all zeros or all ones. -/
def plain (v : EReal) : BitVec 1 :=
  IntOp.ori (IntOp.cmpi .eq (field v) 0#32) (IntOp.cmpi .eq (field v) 2139095040#32)

/-- The scale that the compares give. -/
def scale (v : EReal) : EReal :=
  Scalar.select (plain v) (Ideal.ofBits .f32 0x3F800000#32) (Ideal.ofBits .f32 (IntOp.addi (field v) 8388608#32))

/-- Its reciprocal, as the compares give it. -/
def inv (v : EReal) : EReal :=
  Scalar.select (plain v) (Ideal.ofBits .f32 0x3F800000#32) (Ideal.ofBits .f32 (IntOp.subi 2122317824#32 (field v)))

/-! ## The least power of two above -/

/-- One of the powers of two the least is taken of, infinity where it is not above `v`. -/
def cand (v : EReal) (k : Fin 252) : EReal :=
  Scalar.select (Ideal.cmp .ogt (Ideal.exp2 (((IntOp.subi (BitVec.ofNat 32 k.val) 125#32).toInt : ℝ) : EReal)) v)
    (Ideal.exp2 (((IntOp.subi (BitVec.ofNat 32 k.val) 125#32).toInt : ℝ) : EReal)) (Ideal.ofBits .f32 0x7F800000#32)

/-- The least power of two above `v`, and one below the least normal number. -/
def least (v : EReal) : EReal :=
  Scalar.select (Ideal.cmp .olt v (Ideal.ofBits .f32 0x00800000#32)) (Ideal.ofBits .f32 0x3F800000#32)
    (Finset.univ.fold min (Ideal.ofBits .f32 0x7F800000#32) (cand v))

theorem exp2_at (k : Fin 252) :
    Ideal.exp2 (((IntOp.subi (BitVec.ofNat 32 k.val) 125#32).toInt : ℝ) : EReal) = pw (k.val + 2) := by
  have hk := k.isLt
  have ht : (IntOp.subi (BitVec.ofNat 32 k.val) 125#32).toInt = (k.val : ℤ) - 125 := by
    have hb : IntOp.subi (BitVec.ofNat 32 k.val) 125#32 = BitVec.ofInt 32 ((k.val : ℤ) - 125) := by
      unfold IntOp.subi
      rw [← BitVec.ofInt_natCast, sub_eq_add_neg, BitVec.ofInt_add, BitVec.sub_eq_add_neg]
      rfl
    rw [hb, BitVec.toInt_ofInt_eq_self (by norm_num) (by norm_num; omega) (by norm_num; omega)]
  rw [ht]
  show ((Real.rpow 2 (((k.val : ℤ) - 125 : ℤ) : ℝ) : ℝ) : EReal) = _
  rw [show Real.rpow 2 (((k.val : ℤ) - 125 : ℤ) : ℝ) = (2 : ℝ) ^ (((k.val : ℤ) - 125 : ℤ) : ℝ) from rfl, Real.rpow_intCast]
  unfold pw; rw [if_neg (by omega), if_neg (by omega)]
  congr 2; push_cast; ring

theorem cand_eq (v : EReal) (k : Fin 252) : cand v k = if v < pw (k.val + 2) then pw (k.val + 2) else ⊤ := by
  unfold cand
  rw [exp2_at, show Ideal.ofBits .f32 0x7F800000#32 = ⊤ by simp [Ideal.ofBits, Ideal.ieee]]
  by_cases h : v < pw (k.val + 2) <;> simp [Scalar.select, Ideal.cmp, h]

theorem ofBits_one : Ideal.ofBits .f32 0x3F800000#32 = 1 := Idealize.ShloMosaic.Ideal.ofBits_one_f32

theorem div_one_one : Ideal.div 1 1 = 1 := by unfold Ideal.div; simp

/-- Below `2 ^ 126` the compares give the least power of two above, and its reciprocal. -/
theorem scale_eq {v : EReal} (h0 : 0 ≤ v) (h1 : v < pw 253) : scale v = least v ∧ inv v = Ideal.div (Ideal.ofBits .f32 0x3F800000#32) (least v) := by
  obtain ⟨e, he, le, pe, qe⟩ := field_spec h0
  have e252 : e ≤ 252 := by
    by_contra hc
    exact absurd (lt_of_le_of_lt ((pw_mono (by omega : 253 ≤ e)).trans pe) h1) (lt_irrefl _)
  have qe' : v < pw (e + 1) := qe.resolve_right (by omega)
  have min1 : Ideal.ofBits .f32 0x00800000#32 = pw 1 := by
    rw [← ofBits_word 1 (by omega)]; simp [word]
  unfold scale inv least plain
  rw [he, min1]
  by_cases hz : e = 0
  · subst hz
    have : Ideal.cmp .olt v (pw 1) = 1#1 := by
      have : v < pw 1 := qe'
      simp [Ideal.cmp, this]
    rw [this]
    simp [Scalar.select, IntOp.ori, IntOp.cmpi, word, ofBits_one, div_one_one]
  · have h1' : pw 1 ≤ v := (pw_mono (by omega)).trans pe
    have c1 : Ideal.cmp .olt v (pw 1) = 0#1 := by simp [Ideal.cmp, not_lt.mpr h1']
    have w0 : (word e == 0#32) = false := by
      rw [beq_eq_false_iff_ne]; intro h
      have := congrArg BitVec.toNat h
      simp only [word, BitVec.toNat_ofNat] at this; omega
    have w1 : (word e == 2139095040#32) = false := by
      rw [beq_eq_false_iff_ne]; intro h
      have := congrArg BitVec.toNat h
      simp only [word, BitVec.toNat_ofNat] at this; omega
    have c2 : IntOp.ori (IntOp.cmpi .eq (word e) 0#32) (IntOp.cmpi .eq (word e) 2139095040#32) = 0#1 := by
      simp [IntOp.ori, IntOp.cmpi, w0, w1]
    have a1 : IntOp.addi (word e) 8388608#32 = word (e + 1) := by
      rw [← word_add, show word 1 = 8388608#32 by simp [word]]; rfl
    have s1 : IntOp.subi 2122317824#32 (word e) = word (253 - e) := by
      rw [show (2122317824#32 : BitVec 32) = word 253 by simp [word]]
      show word 253 - word e = _
      rw [show word 253 = word (253 - e) + word e by rw [word_add]; congr 1; omega]
      exact BitVec.add_sub_cancel _ _
    have lf : Finset.univ.fold min (Ideal.ofBits .f32 0x7F800000#32) (cand v) = pw (e + 1) := by
      apply le_antisymm
      · refine (Finset.fold_min_le _).mpr (.inr ⟨⟨e - 1, by omega⟩, Finset.mem_univ _, ?_⟩)
        rw [cand_eq]; simp only [show e - 1 + 2 = e + 1 by omega]
        rw [if_pos qe']
      · refine (Finset.le_fold_min _).mpr ⟨by rw [show Ideal.ofBits .f32 0x7F800000#32 = ⊤ by simp [Ideal.ofBits, Ideal.ieee]]; exact le_top, fun k _ => ?_⟩
        rw [cand_eq]; split
        · rename_i hk
          refine pw_mono ?_
          by_contra hc
          exact absurd (lt_of_lt_of_le hk ((pw_mono (by omega : k.val + 2 ≤ e)).trans pe)) (lt_irrefl _)
        · exact le_top
    rw [c1, c2, a1, s1, lf, ofBits_word _ (by omega), ofBits_word _ (by omega), ofBits_one]
    simp only [Scalar.select, show ¬((0#1 : BitVec 1) = 1) by decide, if_false]
    refine ⟨trivial, ?_⟩
    unfold Ideal.div
    rw [if_neg (pw_pos_le (by omega : e + 1 ≠ 0)).ne', one_mul]
    unfold pw
    rw [if_neg (by omega), if_neg (by omega), if_neg (by omega), if_neg (by omega), ← EReal.coe_inv, ← zpow_neg]
    congr 2; push_cast [Nat.cast_sub (by omega : e ≤ 253)]; omega

end Cert.Scale

end
-- ==== Proof.Spec.lean ====
/- One row of the five results, as functions of natural-numbered entries. -/
module

public import proofs.«01_k».proof.Proof.Scale
public import Idealize.ShloMosaic.Lib.Pointwise

@[expose] public section

noncomputable section

namespace Cert.Spec

open Idealize.ShloMosaic

/-- A value brought within the range of the codes. -/
def clamp (v : EReal) : EReal := min (Ideal.ofBits .f32 0x43E00000#32) (max (Ideal.ofBits .f32 0xC3E00000#32) v)

/-- The largest of the magnitudes of `u` over 128 places, over 448. -/
def top (u : Fin 128 → EReal) : EReal :=
  Finset.univ.fold max (Ideal.ofBits .f32 0xFF800000#32) (fun l => max (u l) (-u l)) * Ideal.ofBits .f32 0x3B124925#32

/-- The value of the block `b` of the row `x` its scale is taken from. -/
def xv (x : ℕ → EReal) (b : ℕ) : EReal := top fun l => x (128 * b + l.val)

/-- The codes of the row `x`. -/
def xc (x : ℕ → EReal) (k : ℕ) : EReal := clamp (x k * Scale.inv (xv x (k / 128)))

/-- The scales of the row `x`. -/
def xs (x : ℕ → EReal) (b : ℕ) : EReal := Scale.scale (xv x b)

/-- The row `x`, quantised and dequantised. -/
def xd (x : ℕ → EReal) (k : ℕ) : EReal := xc x k * xs x (k / 128)

/-- The row with the product added. -/
def ro (x : ℕ → EReal) (w : ℕ → ℕ → EReal) (res : ℕ → EReal) (j : ℕ) : EReal := (∑ k : Fin 2048, xd x k.val * w k.val j) + res j

/-- The factor that normalises the row `r`. -/
def rstd (r : ℕ → EReal) : EReal :=
  Ideal.rsqrt ((∑ l : Fin 128, ∑ n ∈ Finset.range 64, r (128 * n + l.val) * r (128 * n + l.val)) * Ideal.ofBits .f32 0x39000000#32
    + Ideal.ofBits .f32 0x358637BD#32)

/-- The value the scale of the normalised row is taken from. -/
def yv (r g : ℕ → EReal) : EReal :=
  Finset.univ.fold max (Ideal.ofBits .f32 0xFF800000#32) (fun l : Fin 128 => (Finset.range 64).fold max 0 fun n =>
    max (r (128 * n + l.val) * g (128 * n + l.val)) (-(r (128 * n + l.val) * g (128 * n + l.val)))) * rstd r * Ideal.ofBits .f32 0x3B124925#32

/-- The codes of the normalised row. -/
def yc (r g : ℕ → EReal) (j : ℕ) : EReal := clamp (r j * rstd r * g j * Scale.inv (yv r g))

/-- The scale of the normalised row. -/
def ys (r g : ℕ → EReal) : EReal := Scale.scale (yv r g)

/-- The entries of an array of two axes, numbered by naturals. -/
def nat2 {m n : ℕ} (A : (⟨2, ![m, n]⟩ : Shape).Idx → EReal) (r j : ℕ) : EReal := if h : r < m ∧ j < n then A (ix2 ⟨r, h.1⟩ ⟨j, h.2⟩) else 0

/-- The entries of an array of three axes, the first of them one long. -/
def nat3 {m n : ℕ} (A : (⟨3, ![1, m, n]⟩ : Shape).Idx → EReal) (r j : ℕ) : EReal :=
  if h : r < m ∧ j < n then A (ix3 (0 : Fin 1) ⟨r, h.1⟩ ⟨j, h.2⟩) else 0

theorem nat2_of {m n : ℕ} (A : (⟨2, ![m, n]⟩ : Shape).Idx → EReal) {r j : ℕ} (hr : r < m) (hj : j < n) : nat2 A r j = A (ix2 ⟨r, hr⟩ ⟨j, hj⟩) :=
  dif_pos ⟨hr, hj⟩

theorem nat2_fin {m n : ℕ} (A : (⟨2, ![m, n]⟩ : Shape).Idx → EReal) (r : Fin m) (j : Fin n) : nat2 A r j = A (ix2 r j) := nat2_of A r.isLt j.isLt

theorem nat3_of {m n : ℕ} (A : (⟨3, ![1, m, n]⟩ : Shape).Idx → EReal) {r j : ℕ} (hr : r < m) (hj : j < n) :
    nat3 A r j = A (ix3 (0 : Fin 1) ⟨r, hr⟩ ⟨j, hj⟩) :=
  dif_pos ⟨hr, hj⟩

end Cert.Spec
-- ==== Proof.Rows.lean ====
/- The functions of `Uniform.lean` over the extended reals, read at an index. -/
module

public import proofs.«01_k».proof.Proof.Uniform
public import proofs.«01_k».proof.Proof.Spec
public import Idealize.ShloMosaic.Lib.Pointwise
public import Idealize.ShloMosaic.Lib.ValueLayout

@[expose] public section

set_option maxRecDepth 16384

noncomputable section

namespace Cert.KernelIdeal.Gen

open Cert.Spec (clamp top)
open Idealize.ShloMosaic Idealize.ShloMosaic.TcCoe Idealize.ShloMosaic.Tactic

theorem vstep_apply (v : FVec Ideal S32x128 .f32) (e : IVec S32x128 32) (k : BitVec 32) (j : S32x128.Idx) :
    vstep v e k j = Scale.step (v j) k (e j) := rfl

theorem zeros_apply (j : S32x128.Idx) : broadcast S32x128 (0#32) j = 0#32 := rfl

theorem vfield_apply (v : FVec Ideal S32x128 .f32) (j : S32x128.Idx) : vfield v j = Scale.field (v j) := by
  unfold vfield Scale.field
  rw [vstep_apply, vstep_apply, vstep_apply, vstep_apply, vstep_apply, vstep_apply, vstep_apply, vstep_apply, zeros_apply]

theorem plain_of (e : IVec S32x128 32) (j : S32x128.Idx) :
    ori (cmpi .eq e (broadcast S32x128 0#32)) (cmpi .eq e (broadcast S32x128 2139095040#32)) j
      = IntOp.ori (IntOp.cmpi .eq (e j) 0#32) (IntOp.cmpi .eq (e j) 2139095040#32) := rfl

theorem vplain_apply (v : FVec Ideal S32x128 .f32) (j : S32x128.Idx) : vplain v j = Scale.plain (v j) := by
  unfold vplain Scale.plain
  rw [plain_of, vfield_apply]

theorem scale_of (p : IVec S32x128 1) (e : IVec S32x128 32) (j : S32x128.Idx) :
    select p (broadcast S32x128 (Scalar.ofBits (F := Ideal) .f32 0x3F800000#32)) (bitcastToFloat .f32 (addi e (broadcast S32x128 8388608#32))) j
      = Scalar.select (p j) (Ideal.ofBits .f32 0x3F800000#32) (Ideal.ofBits .f32 (IntOp.addi (e j) 8388608#32)) := rfl

theorem inv_of (p : IVec S32x128 1) (e : IVec S32x128 32) (j : S32x128.Idx) :
    select p (broadcast S32x128 (Scalar.ofBits (F := Ideal) .f32 0x3F800000#32)) (bitcastToFloat .f32 (subi (broadcast S32x128 2122317824#32) e)) j
      = Scalar.select (p j) (Ideal.ofBits .f32 0x3F800000#32) (Ideal.ofBits .f32 (IntOp.subi 2122317824#32 (e j))) := rfl

theorem vscale_apply (v : FVec Ideal S32x128 .f32) (j : S32x128.Idx) : vscale v j = Scale.scale (v j) := by
  unfold vscale Scale.scale
  rw [scale_of, vplain_apply, vfield_apply]

theorem vinv_apply (v : FVec Ideal S32x128 .f32) (j : S32x128.Idx) : vinv v j = Scale.inv (v j) := by
  unfold vinv Scale.inv
  rw [inv_of, vplain_apply, vfield_apply]

theorem deq_of (c : FVec Ideal S32x128 .fp8e4m3) (s : FVec Ideal S32x128 .f32) (j : S32x128.Idx) :
    mulf (extf .bf16 c bitsLt_fp8e4m3_bf16) (truncf .bf16 s bitsLt_bf16_f32) j = c j * s j := rfl

theorem code_of (x : FVec Ideal S32x128 .bf16) (s : FVec Ideal S32x128 .f32) (j : S32x128.Idx) :
    truncf .fp8e4m3 (minimumf (broadcast S32x128 (Scalar.truncf .bf16 bitsLt_bf16_f32 (Scalar.ofBits .f32 0x43E00000#32)))
      (maximumf (broadcast S32x128 (Scalar.truncf .bf16 bitsLt_bf16_f32 (Scalar.ofBits .f32 0xC3E00000#32)))
        (mulf x (truncf .bf16 s bitsLt_bf16_f32)))) bitsLt_fp8e4m3_bf16 j = clamp (x j * s j) := rfl

theorem xval_apply (x : Vec Ideal S32x128 .bf16) (r : Fin 32) (l : Fin 128) : xval x (ix2 r l) = top (fun k => x (ix2 r k)) := by
  unfold top
  pointwise [xval, xblk]
  rfl

theorem xcode_apply (x : Vec Ideal S32x128 .bf16) (r : Fin 32) (l : Fin 128) :
    xcode x (ix2 r l) = clamp (x (ix2 r l) * Scale.inv (top (fun k => x (ix2 r k)))) := by
  unfold xcode
  rw [code_of, vinv_apply, xval_apply, xblk, shapeCast_self]

theorem xdeq_apply (x : Vec Ideal S32x128 .bf16) (r : Fin 32) (l : Fin 128) :
    xdeq x (ix2 r l) = clamp (x (ix2 r l) * Scale.inv (top (fun k => x (ix2 r k)))) * Scale.scale (top (fun k => x (ix2 r k))) := by
  unfold xdeq
  rw [shapeCast_self, deq_of, xcode_apply, vscale_apply, xval_apply]

theorem lane_eq (b k : ℕ) (hb : b < 128) (hk : k < 128) :
    IntOp.cmpi .eq (BitVec.ofNat 32 b) (BitVec.ofNat 32 k) = if b = k then 1#1 else 0#1 := by
  unfold IntOp.cmpi
  by_cases h : b = k
  · simp [h]
  · have : BitVec.ofNat 32 b ≠ BitVec.ofNat 32 k := by
      intro e
      have := congrArg BitVec.toNat e
      simp only [BitVec.toNat_ofNat] at this
      omega
    have t : (BitVec.ofNat 32 b == BitVec.ofNat 32 k) = false := by simpa using this
    simp [h, t]

theorem pick_of (c : IVec S32x128 1) (a b : FVec Ideal S32x128 .f32) (j : S32x128.Idx) : select c a b j = Scalar.select (c j) (a j) (b j) := rfl

theorem xscales_apply (x : ℕ → Vec Ideal S32x128 .bf16) (r : Fin 32) (b : Fin 16) :
    xscales x (ix2 r b) = Scale.scale (top (fun k => x b.val (ix2 r k))) := by
  have key : ∀ n, n ≤ 16 → running (broadcast S32x128 (Scalar.ofBits (F := Ideal) .f32 0x00000000#32))
      (fun b a => select (cmpi .eq (iota .tc S32x128 32 [1] iota_S32x128_d1_w32) (broadcast S32x128 (BitVec.ofNat 32 b))) (vscale (xval (x b))) a) n
        (ix2 r (⟨b.val, by omega⟩ : Fin 128)) = if b.val < n then Scale.scale (top (fun k => x b.val (ix2 r k))) else 0 := by
    intro n hn
    induction n with
    | zero => simp [Scalar.ofBits, Ideal.ofBits, Ideal.ieee, broadcast]
    | succ n ih =>
      rw [running_succ, pick_of, ih (by omega)]
      have e : cmpi .eq (iota .tc S32x128 32 [1] iota_S32x128_d1_w32) (broadcast S32x128 (BitVec.ofNat 32 n)) (ix2 r (⟨b.val, by omega⟩ : Fin 128))
          = if b.val = n then 1#1 else 0#1 := by
        rw [← lane_eq b.val n (by omega) (by omega)]
        pointwise
      rw [e, vscale_apply, xval_apply]
      by_cases h : b.val = n
      · subst h; simp [Scalar.select]
      · have h1 : (b.val < n + 1) = (b.val < n) := by rw [Nat.lt_succ_iff_lt_or_eq]; simp [h]
        simp [h, Scalar.select, h1]
  have := key 16 le_rfl
  rw [if_pos b.isLt] at this
  rw [← this]
  unfold xscales
  pointwise

theorem prod_apply (xw : Vec Ideal S128x2048 .bf16) (w : Vec Ideal S2048x512 .bf16) (r : Fin 128) (l : Fin 512) :
    prod xw w (ix2 r l) = ∑ k, xw (ix2 r k) * w (ix2 k l) := by
  pointwise [prod]

theorem rout_apply (acc : FVec Ideal S128x512 .f32) (p q : ℕ) (x : Vec Ideal S32x128 .bf16) (r : Fin 32) (l : Fin 128) :
    rout acc p q x (ix2 r l) = acc (ix2 (⟨32 * (p % 4) + r, by omega⟩ : Fin 128) (⟨128 * (q % 4) + l, by omega⟩ : Fin 512)) + x (ix2 r l) := by
  pointwise [rout]

theorem gains_apply (g : Vec Ideal S1x128 .bf16) (r : Fin 32) (l : Fin 128) : gains g (ix2 r l) = g (ix2 0 l) := by
  pointwise [gains]

theorem sumsq_apply (f : ℕ → FVec Ideal S32x128 .bf16) (j : S32x128.Idx) : sumsq f j = ∑ n ∈ Finset.range 64, f n j * f n j := by
  unfold sumsq
  generalize 64 = N
  induction N with
  | zero => simp [Scalar.ofBits, Ideal.ofBits, Ideal.ieee, broadcast]
  | succ N ih =>
    rw [running_succ, Finset.sum_range_succ, ← ih]
    rfl

theorem largest_apply (f : ℕ → FVec Ideal S32x128 .bf16) (g : ℕ → Vec Ideal S1x128 .bf16) (r : Fin 32) (l : Fin 128) :
    largest f g (ix2 r l) = (Finset.range 64).fold max 0 (fun n => max (f n (ix2 r l) * g n (ix2 0 l)) (-(f n (ix2 r l) * g n (ix2 0 l)))) := by
  unfold largest
  generalize 64 = N
  induction N with
  | zero => simp [Scalar.ofBits, Ideal.ofBits, Ideal.ieee, broadcast]
  | succ N ih =>
    rw [running_succ, Finset.range_add_one, Finset.fold_insert Finset.notMem_range_self, ← ih, max_comm]
    simp only [← gains_apply _ r l]
    rfl

theorem rstd_apply (ss : FVec Ideal S32x128 .f32) (r : Fin 32) (l : Fin 128) :
    rstd ss (ix2 r l) = Ideal.rsqrt ((∑ k, ss (ix2 r k)) * Ideal.ofBits .f32 0x39000000#32 + Ideal.ofBits .f32 0x358637BD#32) := by
  pointwise [rstd]

theorem yval_apply (am rs : FVec Ideal S32x128 .f32) (r : Fin 32) (l : Fin 128) :
    yval am rs (ix2 r l) = Finset.univ.fold max (Ideal.ofBits .f32 0xFF800000#32) (fun k => am (ix2 r k)) * rs (ix2 r l) * Ideal.ofBits .f32 0x3B124925#32 := by
  pointwise [yval]

theorem ycode_apply (rs v : FVec Ideal S32x128 .f32) (g : Vec Ideal S1x128 .bf16) (x : Vec Ideal S32x128 .bf16) (r : Fin 32) (l : Fin 128) :
    ycode rs v g x (ix2 r l) = clamp (x (ix2 r l) * rs (ix2 r l) * g (ix2 0 l) * Scale.inv (v (ix2 r l))) := by
  unfold clamp
  rw [← vinv_apply, ← gains_apply g r l]
  pointwise [ycode]

theorem yscale_apply (v : FVec Ideal S32x128 .f32) (r : Fin 32) : yscale v (ix2 r (0 : Fin 1)) = Scale.scale (v (ix2 r 0)) := by
  rw [← vscale_apply]
  pointwise [yscale]

theorem wdeq_apply (s : Vec Ideal S1x512 .bf16) (w : Vec Ideal S1x128x512 .fp8e4m3) (r : Fin 128) (l : Fin 512) :
    wdeq s w (ix2 r l) = w (ix3 0 r l) * s (ix2 0 l) := by
  pointwise [wdeq]

end Cert.KernelIdeal.Gen
-- ==== Proof.Block.lean ====
/- What the lists of `Uniform.lean` leave, read at an index, over the extended reals: one row at a time, the functions of `Spec.lean`. -/
module

public import proofs.«01_k».proof.Proof.Rows
public import Idealize.ShloMosaic.Lib.Pipeline.Value

@[expose] public section

set_option maxRecDepth 16384

noncomputable section

namespace Cert.KernelIdeal.Gen

open Cert.Spec (clamp top xv xc xs xd yc ys)
open Idealize.ShloMosaic Idealize.ShloMosaic.TcCoe Idealize.ShloMosaic.Tactic

/-- Pieces of one size that all agree with a function `G` of the coordinates leave `G` where one of them lies. -/
theorem canon_at {m n a b : ℕ} {e : EltTy} (G : ℕ → ℕ → Elt Ideal e) (N : ℕ) (o0 o1 : ℕ → ℕ)
    (inb : ∀ k, ∀ d, (![o0 k, o1 k] : Fin 2 → ℕ) d + (![a, b] : Fin 2 → ℕ) d ≤ (⟨2, ![m, n]⟩ : Shape).size d)
    (f : ℕ → (⟨2, ![a, b]⟩ : Shape).Idx → Elt Ideal e)
    (h : ∀ k < N, ∀ (r : Fin a) (l : Fin b), f k (ix2 r l) = G (o0 k + r) (o1 k + l)) (r : Fin m) (j : Fin n)
    (hc : ∃ k < N, o0 k ≤ r.val ∧ r.val < o0 k + a ∧ o1 k ≤ j.val ∧ j.val < o1 k + b) :
    View.canon (pieces (fun k => (⟨Rect.unit (s := ⟨2, ![m, n]⟩) ![o0 k, o1 k] ![a, b] (inb k), f k⟩ : View.Piece (Elt Ideal) ⟨2, ![m, n]⟩ e)) N)
      (ix2 r j) = G r j := by
  refine View.canon_apply_of_pieces (fun i => G (i 0).val (i 1).val) _ ?_ (ix2 r j) ?_
  · intro q hq x
    obtain ⟨k, hk, rfl⟩ := (mem_pieces _ _ _).mp hq
    have e : f k x = f k (ix2 (n0 := a) (n1 := b) (x 0) (x 1)) := congrArg (f k) (eq_ix2 (n0 := a) (n1 := b) x)
    refine (e.trans (h k hk (x 0) (x 1))).trans ?_
    have e0 : o0 k + (x 0).val = o0 k + 1 * (x 0).val := by rw [Nat.one_mul]
    have e1 : o1 k + (x 1).val = o1 k + 1 * (x 1).val := by rw [Nat.one_mul]
    exact congrArg₂ G e0 e1
  · obtain ⟨k, hk, h0, h1, h2, h3⟩ := hc
    refine ⟨_, (mem_pieces _ _ _).mpr ⟨k, hk, rfl⟩, ?_⟩
    refine (Rect.mem_set_unit (s := ⟨2, ![m, n]⟩) (off := ![o0 k, o1 k]) (size := ![a, b]) (inb := inb k)).mpr ?_
    exact Fin.forall_fin_two.mpr ⟨⟨h0, h1⟩, ⟨h2, h3⟩⟩

section X
variable {X : ℕ → ℕ → Vec Ideal S32x128 .bf16} {xf : ℕ → ℕ → EReal}
  (hX : ∀ p b, p < 4 → b < 16 → ∀ (r : Fin 32) (l : Fin 128), X p b (ix2 r l) = xf (32 * p + r) (128 * b + l))
include hX

theorem canon_codeL (r : Fin 128) (k : Fin 2048) : View.canon (codeL X) (ix2 r k) = xc (xf r) k := by
  refine canon_at (e := .fp8e4m3) (fun r k => xc (xf r) k) 64 (fun k => 32 * (k / 16 % 4)) (fun k => 128 * (k % 16 % 16)) _ _ ?_ r k ?_
  · intro k hk r l
    have e1 : k / 16 % 4 = k / 16 := by omega
    have e2 : k % 16 % 16 = k % 16 := by omega
    have e3 : (128 * (k % 16) + l.val) / 128 = k % 16 := by omega
    simp only [xcode_apply, hX (k / 16) (k % 16) (by omega) (by omega), xc, xv, e1, e2, e3]
  · exact ⟨16 * (r.val / 32) + k.val / 128, by omega, by omega, by omega, by omega, by omega⟩

theorem canon_deqL (r : Fin 128) (k : Fin 2048) : View.canon (deqL X) (ix2 r k) = xd (xf r) k := by
  refine canon_at (e := .bf16) (fun r k => xd (xf r) k) 64 (fun k => 32 * (k / 16 % 4)) (fun k => 128 * (k % 16 % 16)) _ _ ?_ r k ?_
  · intro k hk r l
    have e1 : k / 16 % 4 = k / 16 := by omega
    have e2 : k % 16 % 16 = k % 16 := by omega
    have e3 : (128 * (k % 16) + l.val) / 128 = k % 16 := by omega
    simp only [xdeq_apply, hX (k / 16) (k % 16) (by omega) (by omega), xd, xs, xc, xv, e1, e2, e3]
  · exact ⟨16 * (r.val / 32) + k.val / 128, by omega, by omega, by omega, by omega, by omega⟩

theorem canon_scaleL (r : Fin 128) (b : Fin 16) : View.canon (scaleL X) (ix2 r b) = xs (xf r) b := by
  refine canon_at (e := .f32) (fun r b => xs (xf r) b) 4 (fun p => 32 * (p % 4)) (fun _ => 0) _ _ ?_ r b ?_
  · intro p hp r b
    have e1 : p % 4 = p := by omega
    simp only [xscales_apply, hX p b.val hp b.isLt, xs, xv, e1, Nat.zero_add]
  · exact ⟨r.val / 32, by omega, by omega, by omega, by omega, by omega⟩
end X

section Y
variable {acc : ℕ → FVec Ideal S128x512 .f32} {res : ℕ → ℕ → Vec Ideal S32x128 .bf16} {g : ℕ → Vec Ideal S1x128 .bf16}
  {P rf : ℕ → ℕ → EReal} {gf : ℕ → EReal}
  (hacc : ∀ c, c < 16 → ∀ (r : Fin 128) (l : Fin 512), acc c (ix2 r l) = P r (512 * c + l))
  (hres : ∀ p n, p < 4 → n < 64 → ∀ (r : Fin 32) (l : Fin 128), res p n (ix2 r l) = rf (32 * p + r) (128 * n + l))
  (hg : ∀ n, n < 64 → ∀ l : Fin 128, g n (ix2 0 l) = gf (128 * n + l))

include hacc hres in
theorem rblk_apply (p n : ℕ) (hp : p < 4) (hn : n < 64) (r : Fin 32) (l : Fin 128) :
    rblk acc res p n (ix2 r l) = P (32 * p + r) (128 * n + l) + rf (32 * p + r) (128 * n + l) := by
  unfold rblk
  rw [rout_apply, hacc (n / 4) (by omega), hres p n hp hn]
  have e0 : 32 * (p % 4) + r.val = 32 * p + r.val := by omega
  have e1 : 512 * (n / 4) + (128 * (n % 4 % 4) + l.val) = 128 * n + l.val := by omega
  simp only [e0, e1]

include hacc hres in
theorem canon_routL (r : Fin 128) (j : Fin 8192) : View.canon (routL acc res) (ix2 r j) = P r j + rf r j := by
  refine canon_at (e := .bf16) (fun r j => P r j + rf r j) 256 (fun k => 32 * (k / 4 % 4 % 4)) (fun k => 128 * ((4 * (k / 16) + k % 4) % 64)) _ _ ?_ r j ?_
  · intro k hk r l
    have e := rblk_apply hacc hres (k / 4 % 4) (4 * (k / 16) + k % 4) (by omega) (by omega) r l
    unfold rblk at e
    have e0 : (4 * (k / 16) + k % 4) / 4 = k / 16 := by omega
    have e1 : (4 * (k / 16) + k % 4) % 4 = k % 4 := by omega
    have e2 : k / 4 % 4 % 4 = k / 4 % 4 := by omega
    have e3 : (4 * (k / 16) + k % 4) % 64 = 4 * (k / 16) + k % 4 := by omega
    rw [e0, e1] at e
    rw [e2, e3]
    exact e
  · exact ⟨16 * (j.val / 512) + 4 * (r.val / 32) + j.val / 128 % 4, by omega, by omega, by omega, by omega, by omega⟩

include hacc hres in
theorem rs_apply (p : ℕ) (hp : p < 4) (r : Fin 32) (l : Fin 128) :
    rs acc res p (ix2 r l) = Spec.rstd (fun j => P (32 * p + r) j + rf (32 * p + r) j) := by
  unfold rs Spec.rstd
  rw [rstd_apply]
  refine congrArg (fun s => Ideal.rsqrt (s * _ + _)) (Finset.sum_congr rfl fun k _ => ?_)
  rw [sumsq_apply]
  refine Finset.sum_congr rfl fun n hn => ?_
  rw [rblk_apply hacc hres p n hp (Finset.mem_range.mp hn)]

include hacc hres hg in
theorem yv_apply (p : ℕ) (hp : p < 4) (r : Fin 32) (l : Fin 128) :
    yv acc res g p (ix2 r l) = Spec.yv (fun j => P (32 * p + r) j + rf (32 * p + r) j) gf := by
  unfold yv Spec.yv
  rw [yval_apply, rs_apply hacc hres p hp]
  refine congrArg (fun s => s * _ * _) (Finset.fold_congr fun k _ => ?_)
  rw [largest_apply]
  refine Finset.fold_congr fun n hn => ?_
  rw [rblk_apply hacc hres p n hp (Finset.mem_range.mp hn), hg n (Finset.mem_range.mp hn)]

include hacc hres hg in
theorem canon_ycodeL {R : ℕ → ℕ → Vec Ideal S32x128 .bf16}
    (hR : ∀ p n, p < 4 → n < 64 → ∀ (r : Fin 32) (l : Fin 128), R p n (ix2 r l) = P (32 * p + r) (128 * n + l) + rf (32 * p + r) (128 * n + l))
    (r : Fin 128) (j : Fin 8192) : View.canon (ycodeL acc res g R) (ix2 r j) = yc (fun j => P r j + rf r j) gf j := by
  refine canon_at (e := .fp8e4m3) (fun r j => yc (fun j => P r j + rf r j) gf j) 256 (fun k => 32 * (k / 64 % 4)) (fun k => 128 * (k % 64 % 64)) _ _ ?_ r j ?_
  · intro k hk r l
    have e2 : k / 64 % 4 = k / 64 := by omega
    have e3 : k % 64 % 64 = k % 64 := by omega
    rw [e2, e3, ycode_apply, rs_apply hacc hres _ (by omega), yv_apply hacc hres hg _ (by omega), hR _ _ (by omega) (by omega), hg _ (by omega)]
    rfl
  · exact ⟨64 * (r.val / 32) + j.val / 128, by omega, by omega, by omega, by omega, by omega⟩

include hacc hres hg in
theorem canon_yscaleL (r : Fin 128) : View.canon (yscaleL acc res g) (ix2 r (0 : Fin 1)) = ys (fun j => P r j + rf r j) gf := by
  refine canon_at (e := .f32) (fun r _ => ys (fun j => P r j + rf r j) gf) 4 (fun p => 32 * (p % 4)) (fun _ => 0) _ _ ?_ r 0 ?_
  · intro p hp r b
    have e1 : p % 4 = p := by omega
    obtain rfl : b = 0 := Subsingleton.elim _ _
    rw [e1, yscale_apply, yv_apply hacc hres hg p hp]
    rfl
  · exact ⟨r.val / 32, by omega, by omega, by omega, by simp, by simp⟩
end Y

/-! ## The weight -/

theorem canon_weightL {s : ℕ → ℕ → Vec Ideal S1x512 .bf16} {w : ℕ → ℕ → Vec Ideal S1x128x512 .fp8e4m3} {wf sf : ℕ → ℕ → EReal}
    (hs : ∀ c b, c < 16 → b < 16 → ∀ l : Fin 512, s c b (ix2 0 l) = sf b (512 * c + l))
    (hw : ∀ c b, c < 16 → b < 16 → ∀ (r : Fin 128) (l : Fin 512), w c b (ix3 0 r l) = wf (128 * b + r) (512 * c + l))
    (k : Fin 2048) (j : Fin 8192) : View.canon (weightL s w) (ix2 k j) = wf k j * sf (k / 128) j := by
  refine canon_at (e := .bf16) (fun k j => wf k j * sf (k / 128) j) 256 (fun k => 128 * (k % 16 % 16)) (fun k => 512 * (k / 16 % 16)) _ _ ?_ k j ?_
  · intro k hk r l
    have e2 : k / 16 % 16 = k / 16 := by omega
    have e3 : k % 16 % 16 = k % 16 := by omega
    have e4 : (128 * (k % 16) + r.val) / 128 = k % 16 := by omega
    rw [wdeq_apply, hs _ _ (by omega) (by omega), hw _ _ (by omega) (by omega)]
    simp only [e2, e3, e4]
  · exact ⟨16 * (j.val / 512) + k.val / 128, by omega, by omega, by omega, by omega, by omega⟩

end Cert.KernelIdeal.Gen
-- ==== Proof.TieB.lean ====
/- At a grid point other than the first, the pieces the run found are the lists of `Uniform.lean`. -/
module

public import proofs.«01_k».proof.Proof.Gen.KernelIdeal.Frame
public import proofs.«01_k».proof.Proof.Uniform

@[expose] public section

set_option maxRecDepth 16384

noncomputable section

namespace Cert.KernelIdeal.Gen

open Idealize.ShloMosaic Idealize.ShloMosaic.TcCoe Idealize.ShloMosaic.Tactic

variable {F : FTy → Type} [FloatOps F]

section
variable (arg1 : Memref sig .tc .vmem S128x2048 .bf16) (harg1 : arg1.IsWhole) (arg4 : Memref sig .tc .vmem S128x8192 .bf16) (harg4 : arg4.IsWhole) (arg5 : Memref sig .tc .vmem S1x8192 .bf16) (harg5 : arg5.IsWhole) (arg6 : Memref sig .tc .vmem S128x8192 .bf16) (arg11 : Memref sig .tc .vmem S2048x8192 .bf16) (harg11 : arg11.IsWhole) (arg13 : Memref sig .tc .vmem S128x2048 .bf16)
  (x0 : Vec F S128x2048 .bf16) (x2 : Vec F S128x8192 .bf16) (x3 : Vec F S1x8192 .bf16) (xs0 : Vec F S2048x8192 .bf16)

/-- A block of `x`, loaded. -/
def ldX (p b : ℕ) : Vec F S32x128 .bf16 := View.readAt (Elt F) arg1.view (rX p b).toLoadRect (harg1.unread x0)
/-- A block of the residual, loaded. -/
def ldR (p n : ℕ) : Vec F S32x128 .bf16 := View.readAt (Elt F) arg4.view (rWide p n).toLoadRect (harg4.unread x2)
/-- A block of the gains, loaded. -/
def ldG (n : ℕ) : Vec F S1x128 .bf16 := View.readAt (Elt F) arg5.view (rG n).toLoadRect (harg5.unread x3)
/-- A slab of the carried weight, loaded. -/
def ldW (c : ℕ) : Vec F S2048x512 .bf16 := View.readAt (Elt F) arg11.view (rW c).toLoadRect (harg11.unread xs0)
/-- The dequantised block of `x`, read back. -/
def ldXW : Vec F S128x2048 .bf16 := arg13.view.readCov (deqL (ldX arg1 harg1 x0)) rXW.toLoadRect
/-- The products. -/
def prods (W : ℕ → Vec F S2048x512 .bf16) (c : ℕ) : FVec F S128x512 .f32 := prod (ldXW arg1 harg1 arg13 x0) (W c)
/-- A block of the rows with the residual added, read back. -/
def ldRO (W : ℕ → Vec F S2048x512 .bf16) (p n : ℕ) : Vec F S32x128 .bf16 :=
  arg6.view.readCov (routL (prods arg1 harg1 arg13 x0 W) (ldR arg4 harg4 x2)) (rWide p n).toLoadRect
end

section
variable (c : Dev nD) (i : grid0.Coords) (arg1 : Memref sig .tc .vmem S128x2048 .bf16) (harg1 : arg1.IsWhole) (arg3 : Memref sig .tc .vmem S16x8192 .bf16) (harg3 : arg3.IsWhole) (arg4 : Memref sig .tc .vmem S128x8192 .bf16) (harg4 : arg4.IsWhole) (arg5 : Memref sig .tc .vmem S1x8192 .bf16) (harg5 : arg5.IsWhole) (arg6 : Memref sig .tc .vmem S128x8192 .bf16) (harg6 : arg6.IsWhole) (arg7 : Memref sig .tc .vmem S128x2048 .fp8e4m3) (harg7 : arg7.IsWhole) (arg8 : Memref sig .tc .vmem S128x16 .f32) (harg8 : arg8.IsWhole) (arg9 : Memref sig .tc .vmem S128x8192 .fp8e4m3) (harg9 : arg9.IsWhole) (arg10 : Memref sig .tc .vmem S128x1 .f32) (harg10 : arg10.IsWhole) (arg11 : Memref sig .tc .vmem S2048x8192 .bf16) (harg11 : arg11.IsWhole) (arg12 : Memref sig .tc .vmem S2x2048x512 .fp8e4m3) (harg12 : arg12.IsWhole) (arg13 : Memref sig .tc .vmem S128x2048 .bf16) (harg13 : arg13.IsWhole) (hc0 : ¬cond0_0 i)
    (x0 : Vec F S128x2048 .bf16) (x1 : Vec F S16x8192 .bf16) (x2 : Vec F S128x8192 .bf16) (x3 : Vec F S1x8192 .bf16) (xs0 : Vec F S2048x8192 .bf16) (fh0 : HbBuf0 (F := F) c hbM0_0)

theorem tieB_5 : (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.1 = codeL (ldX arg1 harg1 x0) := by
  sl_kernel_rfl

theorem tieB_6 : (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.1 = scaleL (ldX arg1 harg1 x0) := by
  sl_kernel_rfl

theorem tieB_4 : (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).1 = routL (prods arg1 harg1 arg13 x0 (ldW arg11 harg11 xs0)) (ldR arg4 harg4 x2) := by
  sl_kernel_rfl

theorem tieB_8 : (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.2.1 = yscaleL (prods arg1 harg1 arg13 x0 (ldW arg11 harg11 xs0)) (ldR arg4 harg4 x2) (ldG arg5 harg5 x3) := by
  sl_kernel_rfl

theorem tieB_7 : (kernelRun0_B c i arg1 harg1 arg3 harg3 arg4 harg4 arg5 harg5 arg6 harg6 arg7 harg7 arg8 harg8 arg9 harg9 arg10 harg10 arg11 harg11 arg12 harg12 arg13 harg13 hc0 x0 x1 x2 x3 xs0 fh0).2.2.2.1 = ycodeL (prods arg1 harg1 arg13 x0 (ldW arg11 harg11 xs0)) (ldR arg4 harg4 x2) (ldG arg5 harg5 x3) (ldRO arg1 harg1 arg4 harg4 arg6 arg13 x0 x2 (ldW arg11 harg11 xs0)) := by
  sl_kernel_rfl

end

end Cert.KernelIdeal.Gen
-- ==== Proof.TieA.lean ====
/- At the first grid point, the pieces the run found are the lists of `Uniform.lean`. -/
module

public import proofs.«01_k».proof.Proof.Gen.KernelIdeal.Frame
public import proofs.«01_k».proof.Proof.TieB

@[expose] public section

set_option maxRecDepth 16384

noncomputable section

namespace Cert.KernelIdeal.Gen

open Idealize.ShloMosaic Idealize.ShloMosaic.TcCoe Idealize.ShloMosaic.Tactic

variable {F : FTy → Type} [FloatOps F]

/-- The columns `512 k …` of the weight's codes. -/
abbrev rBig (k : ℕ) : Rect S1x2048x8192 := Rect.unit (s := S1x2048x8192) ![0, 0, 512 * (k % 16)] S1x2048x512.size
  (Fin.forall_fin_succ.mpr ⟨show 0 + 1 ≤ 1 by omega, Fin.forall_fin_two.mpr ⟨show 0 + 2048 ≤ 2048 by omega, show 512 * (k % 16) + 512 ≤ 8192 by omega⟩⟩)

/-- What the transfer of the chunk `k` carries. -/
def dma (c : Dev nD) (fh0 : HbBuf0 (F := F) c hbM0_0) (k : ℕ) : S1x2048x512.Idx → Elt F .fp8e4m3 :=
  ReadAs.same.apply (View.read (Elt F) ((Memref.whole main_v4).slice (rBig k) (fun _ => rfl)).view fh0)

/-- The transfers made by the time the chunk `c` is read. -/
def dmaL (c : Dev nD) (fh0 : HbBuf0 (F := F) c hbM0_0) (n : ℕ) : List (View.Piece (Elt F) S2x2048x512 .fp8e4m3) :=
  pieces (fun k => ⟨rHalf k, dma c fh0 k⟩) n

/-- A block of the chunk `n` read back. -/
def ldC (c : Dev nD) (fh0 : HbBuf0 (F := F) c hbM0_0) (arg12 : Memref sig .tc .vmem S2x2048x512 .fp8e4m3) (n b : ℕ) : Vec F S1x128x512 .fp8e4m3 :=
  arg12.view.readCov (dmaL c fh0 (min (n + 2) 16)) (rHB n b).toLoadRect

/-- A row of the weight's scales, loaded. -/
def ldS (arg3 : Memref sig .tc .vmem S16x8192 .bf16) (harg3 : arg3.IsWhole) (x1 : Vec F S16x8192 .bf16) (n b : ℕ) : Vec F S1x512 .bf16 :=
  View.readAt (Elt F) arg3.view (rWS n b).toLoadRect (harg3.unread x1)

/-- A slab of the weight dequantised at this point, read back. -/
def ldWA (c : Dev nD) (fh0 : HbBuf0 (F := F) c hbM0_0) (arg3 : Memref sig .tc .vmem S16x8192 .bf16) (harg3 : arg3.IsWhole) (x1 : Vec F S16x8192 .bf16)
    (arg11 : Memref sig .tc .vmem S2048x8192 .bf16) (arg12 : Memref sig .tc .vmem S2x2048x512 .fp8e4m3) (n : ℕ) : Vec F S2048x512 .bf16 :=
  arg11.view.readCov (weightL (ldS arg3 harg3 x1) (ldC c fh0 arg12)) (rW n).toLoadRect

section
variable (c : Dev nD) (i : grid0.Coords) (arg1 : Memref sig .tc .vmem S128x2048 .bf16) (harg1 : arg1.IsWhole) (arg3 : Memref sig .tc .vmem S16x8192 .bf16) (harg3 : arg3.IsWhole) (arg4 : Memref sig .tc .vmem S128x8192 .bf16) (harg4 : arg4.IsWhole) (arg5 : Memref sig .tc .vmem S1x8192 .bf16) (harg5 : arg5.IsWhole) (arg6 : Memref sig .tc .vmem S128x8192 .bf16) (harg6 : arg6.IsWhole) (arg7 : Memref sig .tc .vmem S128x2048 .fp8e4m3) (harg7 : arg7.IsWhole) (arg8 : Memref sig .tc .vmem S128x16 .f32) (harg8 : arg8.IsWhole) (arg9 : Memref sig .tc .vmem S128x8192 .fp8e4m3) (harg9 : arg9.IsWhole) (arg10 : Memref sig .tc .vmem S128x1 .f32) (harg10 : arg10.IsWhole) (arg11 : Memref sig .tc .vmem S2048x8192 .bf16) (harg11 : arg11.IsWhole) (arg12 : Memref sig .tc .vmem S2x2048x512 .fp8e4m3) (harg12 : arg12.IsWhole) (arg13 : Memref sig .tc .vmem S128x2048 .bf16) (harg13 : arg13.IsWhole) (hc0 : cond0_0 i)
    (x0 : Vec F S128x2048 .bf16) (x1 : Vec F S16x8192 .bf16) (x2 : Vec F S128x8192 .bf16) (x3 : Vec F S1x8192 .bf16) (fh0 : HbBuf0 (F := F) c hbM0_0)

theorem tieA_5 : (kernelRun0_A c i arg1 harg1 arg3 harg3 arg4 harg4 arg5 harg5 arg6 harg6 arg7 harg7 arg8 harg8 arg9 harg9 arg10 harg10 arg11 harg11 arg12 harg12 arg13 harg13 hc0 x0 x1 x2 x3 fh0).2.1 = codeL (ldX arg1 harg1 x0) := by
  sl_kernel_rfl

theorem tieA_6 : (kernelRun0_A c i arg1 harg1 arg3 harg3 arg4 harg4 arg5 harg5 arg6 harg6 arg7 harg7 arg8 harg8 arg9 harg9 arg10 harg10 arg11 harg11 arg12 harg12 arg13 harg13 hc0 x0 x1 x2 x3 fh0).2.2.1 = scaleL (ldX arg1 harg1 x0) := by
  sl_kernel_rfl

theorem tieA_w : (kernelRun0_A c i arg1 harg1 arg3 harg3 arg4 harg4 arg5 harg5 arg6 harg6 arg7 harg7 arg8 harg8 arg9 harg9 arg10 harg10 arg11 harg11 arg12 harg12 arg13 harg13 hc0 x0 x1 x2 x3 fh0).2.2.2.2.2.1 = weightL (ldS arg3 harg3 x1) (ldC c fh0 arg12) := by
  sl_kernel_rfl

theorem tieA_4 : (kernelRun0_A c i arg1 harg1 arg3 harg3 arg4 harg4 arg5 harg5 arg6 harg6 arg7 harg7 arg8 harg8 arg9 harg9 arg10 harg10 arg11 harg11 arg12 harg12 arg13 harg13 hc0 x0 x1 x2 x3 fh0).1 = routL (prods arg1 harg1 arg13 x0 (ldWA c fh0 arg3 harg3 x1 arg11 arg12)) (ldR arg4 harg4 x2) := by
  sl_kernel_rfl

theorem tieA_8 : (kernelRun0_A c i arg1 harg1 arg3 harg3 arg4 harg4 arg5 harg5 arg6 harg6 arg7 harg7 arg8 harg8 arg9 harg9 arg10 harg10 arg11 harg11 arg12 harg12 arg13 harg13 hc0 x0 x1 x2 x3 fh0).2.2.2.2.1 = yscaleL (prods arg1 harg1 arg13 x0 (ldWA c fh0 arg3 harg3 x1 arg11 arg12)) (ldR arg4 harg4 x2) (ldG arg5 harg5 x3) := by
  sl_kernel_rfl

theorem tieA_7 : (kernelRun0_A c i arg1 harg1 arg3 harg3 arg4 harg4 arg5 harg5 arg6 harg6 arg7 harg7 arg8 harg8 arg9 harg9 arg10 harg10 arg11 harg11 arg12 harg12 arg13 harg13 hc0 x0 x1 x2 x3 fh0).2.2.2.1 = ycodeL (prods arg1 harg1 arg13 x0 (ldWA c fh0 arg3 harg3 x1 arg11 arg12)) (ldR arg4 harg4 x2) (ldG arg5 harg5 x3) (ldRO arg1 harg1 arg4 harg4 arg6 arg13 x0 x2 (ldWA c fh0 arg3 harg3 x1 arg11 arg12)) := by
  sl_kernel_rfl

end

end Cert.KernelIdeal.Gen
-- ==== Proof.Loads.lean ====
/- What the loads of one grid point bring, over the extended reals, and so what the point leaves in each output. -/
module

public import proofs.«01_k».proof.Proof.Block
public import proofs.«01_k».proof.Proof.TieA

@[expose] public section

set_option maxRecDepth 16384

noncomputable section

namespace Cert.KernelIdeal.Gen

open Cert.Spec (clamp top xv xc xs xd yc ys ro nat2 nat3 nat2_of nat2_fin nat3_of)
open Idealize.ShloMosaic Idealize.ShloMosaic.TcCoe Idealize.ShloMosaic.Tactic

theorem idx_at {m n a b : ℕ} (o0 o1 : ℕ) (inb : ∀ d, (![o0, o1] : Fin 2 → ℕ) d + (![a, b] : Fin 2 → ℕ) d ≤ (⟨2, ![m, n]⟩ : Shape).size d)
    (r : Fin a) (l : Fin b) (h0 : o0 + r.val < m) (h1 : o1 + l.val < n) :
    (Rect.unit (s := ⟨2, ![m, n]⟩) ![o0, o1] ![a, b] inb).toLoadRect.idx (ix2 r l) = ix2 ⟨o0 + r.val, h0⟩ ⟨o1 + l.val, h1⟩ :=
  Shape.idx_ext₂ (show o0 + 1 * r.val = o0 + r.val by omega) (show o1 + 1 * l.val = o1 + l.val by omega)

theorem ld_at {m n a b : ℕ} (A : (⟨2, ![m, n]⟩ : Shape).Idx → EReal) (o0 o1 : ℕ)
    (inb : ∀ d, (![o0, o1] : Fin 2 → ℕ) d + (![a, b] : Fin 2 → ℕ) d ≤ (⟨2, ![m, n]⟩ : Shape).size d)
    (r : Fin a) (l : Fin b) : A ((Rect.unit (s := ⟨2, ![m, n]⟩) ![o0, o1] ![a, b] inb).toLoadRect.idx (ix2 r l)) = nat2 A (o0 + r) (o1 + l) := by
  have h0 : o0 + a ≤ m := inb 0
  have h1 : o1 + b ≤ n := inb 1
  rw [nat2_of A (show o0 + r.val < m by omega) (show o1 + l.val < n by omega), idx_at]

section
variable (arg1 : Memref sig .tc .vmem S128x2048 .bf16) (harg1 : arg1.IsWhole) (arg4 : Memref sig .tc .vmem S128x8192 .bf16) (harg4 : arg4.IsWhole)
  (arg5 : Memref sig .tc .vmem S1x8192 .bf16) (harg5 : arg5.IsWhole) (arg6 : Memref sig .tc .vmem S128x8192 .bf16)
  (arg11 : Memref sig .tc .vmem S2048x8192 .bf16) (harg11 : arg11.IsWhole) (arg13 : Memref sig .tc .vmem S128x2048 .bf16)
  (x0 : Vec Ideal S128x2048 .bf16) (x2 : Vec Ideal S128x8192 .bf16) (x3 : Vec Ideal S1x8192 .bf16) (xs0 : Vec Ideal S2048x8192 .bf16)

theorem ldX_apply (p b : ℕ) (hp : p < 4) (hb : b < 16) (r : Fin 32) (l : Fin 128) :
    ldX arg1 harg1 x0 p b (ix2 r l) = nat2 x0 (32 * p + r) (128 * b + l) := by
  unfold ldX
  rw [View.readAt_eq_ld, Memref.IsWhole.read_unread]
  have e0 : p % 4 = p := by omega
  have e1 : b % 16 = b := by omega
  refine (ld_at x0 (32 * (p % 4)) (128 * (b % 16)) _ r l).trans ?_
  rw [e0, e1]

theorem ldR_apply (p n : ℕ) (hp : p < 4) (hn : n < 64) (r : Fin 32) (l : Fin 128) :
    ldR arg4 harg4 x2 p n (ix2 r l) = nat2 x2 (32 * p + r) (128 * n + l) := by
  unfold ldR
  rw [View.readAt_eq_ld, Memref.IsWhole.read_unread]
  have e0 : p % 4 = p := by omega
  have e1 : n % 64 = n := by omega
  refine (ld_at x2 (32 * (p % 4)) (128 * (n % 64)) _ r l).trans ?_
  rw [e0, e1]

theorem ldG_apply (n : ℕ) (hn : n < 64) (l : Fin 128) : ldG arg5 harg5 x3 n (ix2 0 l) = nat2 x3 0 (128 * n + l) := by
  unfold ldG
  rw [View.readAt_eq_ld, Memref.IsWhole.read_unread]
  have e1 : n % 64 = n := by omega
  refine (ld_at x3 0 (128 * (n % 64)) _ 0 l).trans ?_
  rw [e1]
  rfl

theorem ldW_apply (c : ℕ) (hc : c < 16) (k : Fin 2048) (l : Fin 512) : ldW arg11 harg11 xs0 c (ix2 k l) = nat2 xs0 k (512 * c + l) := by
  unfold ldW
  rw [View.readAt_eq_ld, Memref.IsWhole.read_unread]
  have e1 : c % 16 = c := by omega
  refine (ld_at xs0 0 (512 * (c % 16)) _ k l).trans ?_
  rw [e1, Nat.zero_add]

theorem ldXW_apply (r : Fin 128) (k : Fin 2048) : ldXW arg1 harg1 arg13 x0 (ix2 r k) = xd (nat2 x0 r) k := by
  unfold ldXW
  rw [View.readCov_eq_canon']
  refine (congrArg (View.canon _) (idx_at 0 0 _ r k (by omega) (by omega))).trans ?_
  refine (canon_deqL (ldX_apply arg1 harg1 x0) ⟨0 + r.val, by omega⟩ ⟨0 + k.val, by omega⟩).trans ?_
  simp only [Nat.zero_add]

section
variable {W : ℕ → Vec Ideal S2048x512 .bf16} {wf : ℕ → ℕ → EReal}
  (hW : ∀ c, c < 16 → ∀ (k : Fin 2048) (l : Fin 512), W c (ix2 k l) = wf k (512 * c + l))
include hW

theorem prods_apply (c : ℕ) (hc : c < 16) (r : Fin 128) (l : Fin 512) :
    prods arg1 harg1 arg13 x0 W c (ix2 r l) = ∑ k : Fin 2048, xd (nat2 x0 r) k.val * wf k.val (512 * c + l) := by
  unfold prods
  rw [prod_apply]
  refine Finset.sum_congr rfl fun k _ => ?_
  rw [ldXW_apply, hW c hc]

theorem out_4 (r : Fin 128) (j : Fin 8192) :
    View.canon (routL (prods arg1 harg1 arg13 x0 W) (ldR arg4 harg4 x2)) (ix2 r j) = ro (nat2 x0 r) wf (nat2 x2 r) j :=
  canon_routL (P := fun r j => ∑ k : Fin 2048, xd (nat2 x0 r) k.val * wf k.val j) (prods_apply arg1 harg1 arg13 x0 hW) (ldR_apply arg4 harg4 x2) r j

theorem ldRO_apply (p n : ℕ) (hp : p < 4) (hn : n < 64) (r : Fin 32) (l : Fin 128) :
    ldRO arg1 harg1 arg4 harg4 arg6 arg13 x0 x2 W p n (ix2 r l) = ro (nat2 x0 (32 * p + r)) wf (nat2 x2 (32 * p + r)) (128 * n + l) := by
  unfold ldRO
  rw [View.readCov_eq_canon']
  have e0 : p % 4 = p := by omega
  have e1 : n % 64 = n := by omega
  refine (congrArg (View.canon _) (idx_at (32 * (p % 4)) (128 * (n % 64)) _ r l (by omega) (by omega))).trans ?_
  refine (out_4 arg1 harg1 arg4 harg4 arg13 x0 x2 hW _ _).trans ?_
  simp only [e0, e1]

theorem out_7 (r : Fin 128) (j : Fin 8192) :
    View.canon (ycodeL (prods arg1 harg1 arg13 x0 W) (ldR arg4 harg4 x2) (ldG arg5 harg5 x3)
      (ldRO arg1 harg1 arg4 harg4 arg6 arg13 x0 x2 W)) (ix2 r j) = yc (ro (nat2 x0 r) wf (nat2 x2 r)) (nat2 x3 0) j :=
  canon_ycodeL (P := fun r j => ∑ k : Fin 2048, xd (nat2 x0 r) k.val * wf k.val j) (prods_apply arg1 harg1 arg13 x0 hW) (ldR_apply arg4 harg4 x2)
    (ldG_apply arg5 harg5 x3) (ldRO_apply arg1 harg1 arg4 harg4 arg6 arg13 x0 x2 hW) r j

theorem out_8 (r : Fin 128) :
    View.canon (yscaleL (prods arg1 harg1 arg13 x0 W) (ldR arg4 harg4 x2) (ldG arg5 harg5 x3)) (ix2 r (0 : Fin 1))
      = ys (ro (nat2 x0 r) wf (nat2 x2 r)) (nat2 x3 0) :=
  canon_yscaleL (P := fun r j => ∑ k : Fin 2048, xd (nat2 x0 r) k.val * wf k.val j) (prods_apply arg1 harg1 arg13 x0 hW) (ldR_apply arg4 harg4 x2)
    (ldG_apply arg5 harg5 x3) r

end
end

/-! ## The weight -/

section
variable (c : Dev nD) (fh0 : HbBuf0 (F := Ideal) c hbM0_0) (arg3 : Memref sig .tc .vmem S16x8192 .bf16) (harg3 : arg3.IsWhole)
  (x1 : Vec Ideal S16x8192 .bf16) (arg11 : Memref sig .tc .vmem S2048x8192 .bf16) (arg12 : Memref sig .tc .vmem S2x2048x512 .fp8e4m3)

/-- The weight's codes, numbered by naturals. -/
def wq (k j : ℕ) : EReal := nat3 (m := 2048) (n := 8192) fh0 k j

theorem dma_apply (n : ℕ) (hn : n < 16) (k : Fin 2048) (l : Fin 512) : dma c fh0 n (ix3 (0 : Fin 1) k l) = wq c fh0 k (512 * n + l) := by
  unfold wq
  rw [nat3_of _ k.isLt (show 512 * n + l.val < 8192 by omega)]
  have e1 : n % 16 = n := by omega
  show fh0 _ = fh0 _
  congr 1
  funext a
  match a with
  | ⟨0, _⟩ => rfl
  | ⟨1, _⟩ => exact Fin.ext (show 0 + 1 * k.val = k.val by omega)
  | ⟨2, _⟩ => exact Fin.ext (show 512 * (n % 16) + 1 * l.val = 512 * n + l.val by omega)

theorem canon_dma (n M : ℕ) (L : List (View.Piece (Elt Ideal) S2x2048x512 .fp8e4m3)) (hn : n < 16) (h : Fin 2) (hh : h.val = n % 2) (k : Fin 2048) (l : Fin 512) :
    View.canon (⟨rHalf n, dma c fh0 n⟩ :: L) (ix3 h k l) = wq c fh0 k (512 * n + l) := by
  rw [← dma_apply c fh0 n hn k l]
  have e : (ix3 h k l : S2x2048x512.Idx) = (rHalf n).emb (ix3 (0 : Fin 1) k l) := by
    funext a
    match a with
    | ⟨0, _⟩ => exact Fin.ext (show h.val = n % 2 + 1 * 0 by omega)
    | ⟨1, _⟩ => exact Fin.ext (show k.val = 0 + 1 * k.val by omega)
    | ⟨2, _⟩ => exact Fin.ext (show l.val = 0 + 1 * l.val by omega)
  rw [e]
  exact View.canon_cons_emb (rHalf n) (dma c fh0 n) L (ix3 (0 : Fin 1) k l)

theorem ldC_apply (n b : ℕ) (hn : n < 16) (hb : b < 16) (r : Fin 128) (l : Fin 512) :
    ldC c fh0 arg12 n b (ix3 0 r l) = wq c fh0 (128 * b + r) (512 * n + l) := by
  unfold ldC
  rw [View.readCov_eq_canon']
  have e1 : b % 16 = b := by omega
  have e : (rHB n b).toLoadRect.idx (ix3 (0 : Fin 1) r l) = ix3 (⟨n % 2, by omega⟩ : Fin 2) (⟨128 * b + r.val, by omega⟩ : Fin 2048) l := by
    funext a
    match a with
    | ⟨0, _⟩ => exact Fin.ext (show n % 2 + 1 * 0 = n % 2 by omega)
    | ⟨1, _⟩ => exact Fin.ext (show 128 * (b % 16) + 1 * r.val = 128 * b + r.val by omega)
    | ⟨2, _⟩ => exact Fin.ext (show 0 + 1 * l.val = l.val by omega)
  refine (congrArg (View.canon _) e).trans ?_
  unfold dmaL
  by_cases h : n = 15
  · subst h
    exact canon_dma c fh0 15 0 _ hn _ rfl _ l
  · have e2 : min (n + 2) 16 = n + 1 + 1 := by omega
    rw [e2, pieces_succ, pieces_succ]
    refine (View.canon_cons_of_not_mem _ _ ?_).trans (canon_dma c fh0 n 0 _ hn _ rfl _ l)
    intro hm
    rw [Rect.mem_set_unit] at hm
    have := hm 0
    have h1 : (n + 1) % 2 ≤ n % 2 := this.1
    have h2 : n % 2 < (n + 1) % 2 + 1 := this.2
    omega

theorem ldS_apply (n b : ℕ) (hn : n < 16) (hb : b < 16) (l : Fin 512) : ldS arg3 harg3 x1 n b (ix2 0 l) = nat2 x1 b (512 * n + l) := by
  unfold ldS
  rw [View.readAt_eq_ld, Memref.IsWhole.read_unread]
  have e0 : n % 16 = n := by omega
  have e1 : b % 16 = b := by omega
  refine (ld_at x1 (b % 16) (512 * (n % 16)) _ 0 l).trans ?_
  rw [e0, e1]
  rfl

/-- The dequantised weight. -/
def wd (k j : ℕ) : EReal := wq c fh0 k j * nat2 x1 (k / 128) j

theorem weight_apply (k : Fin 2048) (j : Fin 8192) :
    View.canon (weightL (ldS arg3 harg3 x1) (ldC c fh0 arg12)) (ix2 k j) = wd c fh0 x1 k j :=
  canon_weightL (wf := wq c fh0) (sf := nat2 x1) (ldS_apply arg3 harg3 x1) (ldC_apply c fh0 arg12) k j

theorem ldWA_apply (n : ℕ) (hn : n < 16) (k : Fin 2048) (l : Fin 512) :
    ldWA c fh0 arg3 harg3 x1 arg11 arg12 n (ix2 k l) = wd c fh0 x1 k (512 * n + l) := by
  unfold ldWA
  rw [View.readCov_eq_canon']
  have e1 : n % 16 = n := by omega
  refine (congrArg (View.canon _) (idx_at 0 (512 * (n % 16)) _ k l (by omega) (by omega))).trans ?_
  refine (weight_apply c fh0 arg3 harg3 x1 arg12 _ _).trans ?_
  simp only [e1, Nat.zero_add]

end

end Cert.KernelIdeal.Gen
-- ==== Proof.Points.lean ====
/- What the kernel's five result arrays hold after the run, over the extended reals: at every row, the functions of `Spec.lean`. -/
module

public import proofs.«01_k».proof.Proof.Loads
public import proofs.«01_k».proof.Proof.Gen.KernelIdeal.Value

@[expose] public section

set_option maxRecDepth 16384

noncomputable section

namespace Cert.KernelIdeal.Gen

open Cert.Spec (clamp top xv xc xs xd yc ys ro nat2 nat3 nat2_of nat2_fin nat3_of)
open Idealize.ShloMosaic Idealize.ShloMosaic.TcCoe Idealize.ShloMosaic.Tactic

variable (m : (ℓ : Loc nD τ sig) → Buf (Elt Ideal) ℓ) (c : Dev nD)

/-- The rows of `x`, the scales of the weight, the rows of the residual and the gains, as the kernel's region finds them. -/
def gx : ℕ → ℕ → EReal := nat2 (m := 12288) (n := 2048) (V m c main_v3)
@[inherit_doc gx] def gs : ℕ → ℕ → EReal := nat2 (m := 16) (n := 8192) (V m c main_v2)
@[inherit_doc gx] def gr : ℕ → ℕ → EReal := nat2 (m := 12288) (n := 8192) (V m c main_v5)
@[inherit_doc gx] def gg : ℕ → ℕ → EReal := nat2 (m := 1) (n := 8192) (V m c main_v6)
/-- The dequantised weight. -/
def gw (k j : ℕ) : EReal := nat3 (m := 2048) (n := 8192) (V m c main_v4) k j * gs m c (k / 128) j

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)

theorem lt96 (t : Fin cfg0.N) : t.val < 96 := lt_of_lt_of_eq t.isLt N_0

/-- A block of rows read as rows of the whole. -/
theorem nat2_block {a b n : ℕ} (A : (⟨2, ![a, n]⟩ : Shape).Idx → EReal) (B : (⟨2, ![b, n]⟩ : Shape).Idx → EReal) (o r : ℕ) (hr : r < b) (ho : o + b ≤ a)
    (h : ∀ (l : Fin n), B (ix2 ⟨r, hr⟩ l) = A (ix2 ⟨o + r, by omega⟩ l)) : nat2 B r = nat2 A (o + r) := by
  funext j
  by_cases hj : j < n
  · rw [nat2_of B hr hj, nat2_of A (show o + r < a by omega) hj]
    exact h ⟨j, hj⟩
  · unfold nat2
    rw [dif_neg (fun h => hj h.2), dif_neg (fun h => hj h.2)]

theorem iblk0 (t : Fin cfg0.N) (r : ℕ) (hr : r < 128) : nat2 (m := 128) (n := 2048) (iblk m c 0 t) r = gx m c (128 * t.val + r) := by
  have ht := lt96 t
  refine nat2_block (V m c main_v3) (iblk m c 0 t) (128 * t.val) r hr (by omega) fun l => ?_
  have hi := index0 t
  unfold iblk
  rw [View.read_apply]
  show V m c main_v3 _ = V m c main_v3 _
  congr 1
  funext a
  apply Fin.ext
  match a with
  | ⟨0, _⟩ => show win0_0.index t 0 * 128 + 1 * r = 128 * t.val + r; rw [hi.1]; omega
  | ⟨1, _⟩ => show win0_0.index t 1 * 2048 + 1 * l.val = l.val; rw [hi.2]; omega

theorem iblk1 (t : Fin cfg0.N) (r : ℕ) (hr : r < 16) : nat2 (m := 16) (n := 8192) (iblk m c 1 t) r = gs m c r := by
  refine (nat2_block (V m c main_v2) (iblk m c 1 t) 0 r hr (by omega) fun l => ?_).trans (by rw [Nat.zero_add]; rfl)
  have hi := index1 t
  unfold iblk
  rw [View.read_apply]
  show V m c main_v2 _ = V m c main_v2 _
  congr 1
  funext a
  apply Fin.ext
  match a with
  | ⟨0, _⟩ => show win0_1.index t 0 * 16 + 1 * r = 0 + r; rw [hi.1]; omega
  | ⟨1, _⟩ => show win0_1.index t 1 * 8192 + 1 * l.val = l.val; rw [hi.2]; omega

theorem iblk2 (t : Fin cfg0.N) (r : ℕ) (hr : r < 128) : nat2 (m := 128) (n := 8192) (iblk m c 2 t) r = gr m c (128 * t.val + r) := by
  have ht := lt96 t
  refine nat2_block (V m c main_v5) (iblk m c 2 t) (128 * t.val) r hr (by omega) fun l => ?_
  have hi := index2 t
  unfold iblk
  rw [View.read_apply]
  show V m c main_v5 _ = V m c main_v5 _
  congr 1
  funext a
  apply Fin.ext
  match a with
  | ⟨0, _⟩ => show win0_2.index t 0 * 128 + 1 * r = 128 * t.val + r; rw [hi.1]; omega
  | ⟨1, _⟩ => show win0_2.index t 1 * 8192 + 1 * l.val = l.val; rw [hi.2]; omega

theorem iblk3 (t : Fin cfg0.N) : nat2 (m := 1) (n := 8192) (iblk m c 3 t) 0 = gg m c 0 := by
  refine nat2_block (V m c main_v6) (iblk m c 3 t) 0 0 (by omega) (by omega) fun l => ?_
  have hi := index3 t
  unfold iblk
  rw [View.read_apply]
  show V m c main_v6 _ = V m c main_v6 _
  congr 1
  funext a
  apply Fin.ext
  match a with
  | ⟨0, _⟩ => show win0_3.index t 0 * 1 + 1 * 0 = 0 + 0; rw [hi.1]
  | ⟨1, _⟩ => show win0_3.index t 1 * 8192 + 1 * l.val = l.val; rw [hi.2]; omega

theorem wd_eq (t : Fin cfg0.N) (k j : ℕ) (hk : k < 2048) : wd c (V m c main_v4) (iblk m c 1 t) k j = gw m c k j := by
  unfold wd gw
  rw [iblk1 m c t (k / 128) (by omega)]
  rfl

/-- The carried weight, after any point. -/
theorem carried : ∀ (n : ℕ) (hn : n < cfg0.N) (k : Fin 2048) (j : Fin 8192), (outsAt0 m c n hn).2.2.2.2.2 (ix2 k j) = gw m c k j
  | 0, hn, k, j => by
    have e := congrArg (fun p => p.2.2.2.2.2) (outsAt0_A m c ⟨0, hn⟩ rfl)
    refine (congrFun e (ix2 k j)).trans ?_
    dsimp only
    unfold sout0_A_0
    rw [View.read_writes_junk_eq_canon, tieA_w, weight_apply, wd_eq m c ⟨0, hn⟩ k j k.isLt]
  | n + 1, hn, k, j => by
    have hN := lt96 ⟨n + 1, hn⟩
    have h0 : ¬(⟨n + 1, hn⟩ : Fin cfg0.N).val % 96 = 0 := by dsimp only at hN ⊢; omega
    have e := congrArg (fun p => p.2.2.2.2.2) (outsAt0_B m c ⟨n + 1, hn⟩ h0)
    refine (congrFun e (ix2 k j)).trans ?_
    exact carried n (Nat.lt_of_succ_lt hn) k j

theorem hW_A (t : Fin cfg0.N) (arg3 : Memref sig .tc .vmem S16x8192 .bf16) (harg3 : arg3.IsWhole) (arg11 : Memref sig .tc .vmem S2048x8192 .bf16)
    (arg12 : Memref sig .tc .vmem S2x2048x512 .fp8e4m3) : ∀ n, n < 16 → ∀ (k : Fin 2048) (l : Fin 512),
      ldWA c (V m c main_v4) arg3 harg3 (iblk m c 1 t) arg11 arg12 n (ix2 k l) = gw m c k (512 * n + l) := fun n hn k l => by
  rw [ldWA_apply c _ arg3 harg3 _ arg11 arg12 n hn, wd_eq m c t _ _ k.isLt]

theorem hW_B (n : ℕ) (hn : n < cfg0.N) (arg11 : Memref sig .tc .vmem S2048x8192 .bf16) (harg11 : arg11.IsWhole) :
    ∀ i, i < 16 → ∀ (k : Fin 2048) (l : Fin 512),
      ldW arg11 harg11 (outsAt0 m c n hn).2.2.2.2.2 i (ix2 k l) = gw m c k (512 * i + l) := fun i hi k l => by
  rw [ldW_apply arg11 harg11 _ i hi, nat2_of _ k.isLt (show 512 * i + l.val < 8192 by omega)]
  exact carried m c n hn k _

theorem point_4 (t : Fin cfg0.N) (r : Fin 128) (j : Fin 8192) :
    (outsAt0 m c t.val t.isLt).1 (ix2 r j) = ro (gx m c (128 * t.val + r)) (gw m c) (gr m c (128 * t.val + r)) j := by
  rw [← iblk0 m c t r r.isLt, ← iblk2 m c t r r.isLt]
  by_cases h0 : t.val % 96 = 0
  · refine (congrFun (congrArg (fun p => p.1) (outsAt0_A m c t h0)) (ix2 r j)).trans ?_
    dsimp only
    unfold out0_A_4
    rw [View.read_writes_junk_eq_canon, tieA_4]
    exact out_4 _ _ _ _ _ _ _ (hW_A m c t _ _ _ _) r j
  · refine (congrFun (congrArg (fun p => p.1) (outsAt0_B m c t h0)) (ix2 r j)).trans ?_
    dsimp only
    unfold out0_B_4
    rw [View.read_writes_junk_eq_canon, tieB_4]
    exact out_4 _ _ _ _ _ _ _ (hW_B m c _ _ _ _) r j

theorem point_5 (t : Fin cfg0.N) (r : Fin 128) (k : Fin 2048) :
    (outsAt0 m c t.val t.isLt).2.1 (ix2 r k) = xc (gx m c (128 * t.val + r)) k := by
  rw [← iblk0 m c t r r.isLt]
  by_cases h0 : t.val % 96 = 0
  · refine (congrFun (congrArg (fun p => p.2.1) (outsAt0_A m c t h0)) (ix2 r k)).trans ?_
    dsimp only
    unfold out0_A_5
    rw [View.read_writes_junk_eq_canon, tieA_5]
    exact canon_codeL (ldX_apply _ _ _) r k
  · refine (congrFun (congrArg (fun p => p.2.1) (outsAt0_B m c t h0)) (ix2 r k)).trans ?_
    dsimp only
    unfold out0_B_5
    rw [View.read_writes_junk_eq_canon, tieB_5]
    exact canon_codeL (ldX_apply _ _ _) r k

theorem point_6 (t : Fin cfg0.N) (r : Fin 128) (b : Fin 16) :
    (outsAt0 m c t.val t.isLt).2.2.1 (ix2 r b) = xs (gx m c (128 * t.val + r)) b := by
  rw [← iblk0 m c t r r.isLt]
  by_cases h0 : t.val % 96 = 0
  · refine (congrFun (congrArg (fun p => p.2.2.1) (outsAt0_A m c t h0)) (ix2 r b)).trans ?_
    dsimp only
    unfold out0_A_6
    rw [View.read_writes_junk_eq_canon, tieA_6]
    exact canon_scaleL (ldX_apply _ _ _) r b
  · refine (congrFun (congrArg (fun p => p.2.2.1) (outsAt0_B m c t h0)) (ix2 r b)).trans ?_
    dsimp only
    unfold out0_B_6
    rw [View.read_writes_junk_eq_canon, tieB_6]
    exact canon_scaleL (ldX_apply _ _ _) r b

theorem point_7 (t : Fin cfg0.N) (r : Fin 128) (j : Fin 8192) :
    (outsAt0 m c t.val t.isLt).2.2.2.1 (ix2 r j)
      = yc (ro (gx m c (128 * t.val + r)) (gw m c) (gr m c (128 * t.val + r))) (gg m c 0) j := by
  rw [← iblk0 m c t r r.isLt, ← iblk2 m c t r r.isLt, ← iblk3 m c t]
  by_cases h0 : t.val % 96 = 0
  · refine (congrFun (congrArg (fun p => p.2.2.2.1) (outsAt0_A m c t h0)) (ix2 r j)).trans ?_
    dsimp only
    unfold out0_A_7
    rw [View.read_writes_junk_eq_canon, tieA_7]
    exact out_7 _ _ _ _ _ _ _ _ _ _ _ (hW_A m c t _ _ _ _) r j
  · refine (congrFun (congrArg (fun p => p.2.2.2.1) (outsAt0_B m c t h0)) (ix2 r j)).trans ?_
    dsimp only
    unfold out0_B_7
    rw [View.read_writes_junk_eq_canon, tieB_7]
    exact out_7 _ _ _ _ _ _ _ _ _ _ _ (hW_B m c _ _ _ _) r j

theorem point_8 (t : Fin cfg0.N) (r : Fin 128) :
    (outsAt0 m c t.val t.isLt).2.2.2.2.1 (ix2 r (0 : Fin 1))
      = ys (ro (gx m c (128 * t.val + r)) (gw m c) (gr m c (128 * t.val + r))) (gg m c 0) := by
  rw [← iblk0 m c t r r.isLt, ← iblk2 m c t r r.isLt, ← iblk3 m c t]
  by_cases h0 : t.val % 96 = 0
  · refine (congrFun (congrArg (fun p => p.2.2.2.2.1) (outsAt0_A m c t h0)) (ix2 r (0 : Fin 1))).trans ?_
    dsimp only
    unfold out0_A_8
    rw [View.read_writes_junk_eq_canon, tieA_8]
    exact out_8 _ _ _ _ _ _ _ _ _ _ (hW_A m c t _ _ _ _) r
  · refine (congrFun (congrArg (fun p => p.2.2.2.2.1) (outsAt0_B m c t h0)) (ix2 r (0 : Fin 1))).trans ?_
    dsimp only
    unfold out0_B_8
    rw [View.read_writes_junk_eq_canon, tieB_8]
    exact out_8 _ _ _ _ _ _ _ _ _ _ (hW_B m c _ _ _ _) r

/-! ## The arrays -/

theorem array_4 (R : Fin 12288) (j : Fin 8192) :
    ((dats m 0 c).arrAt 4 cfg0.N : Vec Ideal S12288x8192 .bf16) (ix2 R j) = ro (gx m c R) (gw m c) (gr m c R) j := by
  have hN : cfg0.N = 96 := N_0
  let t : Fin cfg0.N := ⟨R.val / 128, by omega⟩
  have h := congrFun (Value.blocks4 m c t (flush0_4 t)) (ix2 (⟨R.val % 128, by omega⟩ : Fin 128) j)
  rw [View.read_apply, Value.flushed4] at h
  have hi := index4 t
  have p := point_4 m c t (⟨R.val % 128, by omega⟩ : Fin 128) j
  have eR : 128 * t.val + R.val % 128 = R.val := Nat.div_add_mod R.val 128
  simp only [eR] at p
  refine Eq.trans ?_ (h.trans p)
  show (dats m 0 c).arrAt 4 cfg0.N _ = (dats m 0 c).arrAt 4 cfg0.N _
  congr 1
  funext a
  apply Fin.ext
  match a with
  | ⟨0, _⟩ => show R.val = win0_4.index t 0 * 128 + 1 * (R.val % 128); rw [hi.1]; omega
  | ⟨1, _⟩ => show j.val = win0_4.index t 1 * 8192 + 1 * j.val; rw [hi.2]; omega

theorem array_5 (R : Fin 12288) (k : Fin 2048) :
    ((dats m 0 c).arrAt 5 cfg0.N : Vec Ideal S12288x2048 .fp8e4m3) (ix2 R k) = xc (gx m c R) k := by
  have hN : cfg0.N = 96 := N_0
  let t : Fin cfg0.N := ⟨R.val / 128, by omega⟩
  have h := congrFun (Value.blocks5 m c t (flush0_5 t)) (ix2 (⟨R.val % 128, by omega⟩ : Fin 128) k)
  rw [View.read_apply, Value.flushed5] at h
  have hi := index5 t
  have p := point_5 m c t (⟨R.val % 128, by omega⟩ : Fin 128) k
  have eR : 128 * t.val + R.val % 128 = R.val := Nat.div_add_mod R.val 128
  simp only [eR] at p
  refine Eq.trans ?_ (h.trans p)
  show (dats m 0 c).arrAt 5 cfg0.N _ = (dats m 0 c).arrAt 5 cfg0.N _
  congr 1
  funext a
  apply Fin.ext
  match a with
  | ⟨0, _⟩ => show R.val = win0_5.index t 0 * 128 + 1 * (R.val % 128); rw [hi.1]; omega
  | ⟨1, _⟩ => show k.val = win0_5.index t 1 * 2048 + 1 * k.val; rw [hi.2]; omega

theorem array_6 (R : Fin 12288) (b : Fin 16) :
    ((dats m 0 c).arrAt 6 cfg0.N : Vec Ideal S12288x16 .f32) (ix2 R b) = xs (gx m c R) b := by
  have hN : cfg0.N = 96 := N_0
  let t : Fin cfg0.N := ⟨R.val / 128, by omega⟩
  have h := congrFun (Value.blocks6 m c t (flush0_6 t)) (ix2 (⟨R.val % 128, by omega⟩ : Fin 128) b)
  rw [View.read_apply, Value.flushed6] at h
  have hi := index6 t
  have p := point_6 m c t (⟨R.val % 128, by omega⟩ : Fin 128) b
  have eR : 128 * t.val + R.val % 128 = R.val := Nat.div_add_mod R.val 128
  simp only [eR] at p
  refine Eq.trans ?_ (h.trans p)
  show (dats m 0 c).arrAt 6 cfg0.N _ = (dats m 0 c).arrAt 6 cfg0.N _
  congr 1
  funext a
  apply Fin.ext
  match a with
  | ⟨0, _⟩ => show R.val = win0_6.index t 0 * 128 + 1 * (R.val % 128); rw [hi.1]; omega
  | ⟨1, _⟩ => show b.val = win0_6.index t 1 * 16 + 1 * b.val; rw [hi.2]; omega

theorem array_7 (R : Fin 12288) (j : Fin 8192) :
    ((dats m 0 c).arrAt 7 cfg0.N : Vec Ideal S12288x8192 .fp8e4m3) (ix2 R j) = yc (ro (gx m c R) (gw m c) (gr m c R)) (gg m c 0) j := by
  have hN : cfg0.N = 96 := N_0
  let t : Fin cfg0.N := ⟨R.val / 128, by omega⟩
  have h := congrFun (Value.blocks7 m c t (flush0_7 t)) (ix2 (⟨R.val % 128, by omega⟩ : Fin 128) j)
  rw [View.read_apply, Value.flushed7] at h
  have hi := index7 t
  have p := point_7 m c t (⟨R.val % 128, by omega⟩ : Fin 128) j
  have eR : 128 * t.val + R.val % 128 = R.val := Nat.div_add_mod R.val 128
  simp only [eR] at p
  refine Eq.trans ?_ (h.trans p)
  show (dats m 0 c).arrAt 7 cfg0.N _ = (dats m 0 c).arrAt 7 cfg0.N _
  congr 1
  funext a
  apply Fin.ext
  match a with
  | ⟨0, _⟩ => show R.val = win0_7.index t 0 * 128 + 1 * (R.val % 128); rw [hi.1]; omega
  | ⟨1, _⟩ => show j.val = win0_7.index t 1 * 8192 + 1 * j.val; rw [hi.2]; omega

theorem array_8 (R : Fin 12288) :
    ((dats m 0 c).arrAt 8 cfg0.N : Vec Ideal S12288x1 .f32) (ix2 R (0 : Fin 1)) = ys (ro (gx m c R) (gw m c) (gr m c R)) (gg m c 0) := by
  have hN : cfg0.N = 96 := N_0
  let t : Fin cfg0.N := ⟨R.val / 128, by omega⟩
  have h := congrFun (Value.blocks8 m c t (flush0_8 t)) (ix2 (⟨R.val % 128, by omega⟩ : Fin 128) (0 : Fin 1))
  rw [View.read_apply, Value.flushed8] at h
  have hi := index8 t
  have p := point_8 m c t (⟨R.val % 128, by omega⟩ : Fin 128)
  have eR : 128 * t.val + R.val % 128 = R.val := Nat.div_add_mod R.val 128
  simp only [eR] at p
  refine Eq.trans ?_ (h.trans p)
  show (dats m 0 c).arrAt 8 cfg0.N _ = (dats m 0 c).arrAt 8 cfg0.N _
  congr 1
  funext a
  apply Fin.ext
  match a with
  | ⟨0, _⟩ => show R.val = win0_8.index t 0 * 128 + 1 * (R.val % 128); rw [hi.1]; omega
  | ⟨1, _⟩ => show 0 = win0_8.index t 1 * 1 + 1 * 0; rw [hi.2]

end Cert.KernelIdeal.Gen
-- ==== Proof.RefRows.lean ====
/- What the reference's payloads hold, over the extended reals. -/
module

public import proofs.«01_k».proof.Proof.Spec
public import proofs.«01_k».proof.Proof.Gen.ReferenceIdeal.Value

@[expose] public section

noncomputable section

namespace Cert.ReferenceIdeal.Gen

open Cert.Spec
open Idealize.ShloMosaic Idealize.ShloMosaic.TcCoe Idealize.ShloMosaic.Tactic

theorem pay3_apply (P0 : Vec Ideal S12288x2048 .bf16) (R : Fin 12288) (b : Fin 16) (l : Fin 128) :
    k0_pay3 P0 (ix3 R b l) = nat2 (m := 12288) (n := 2048) P0 R (128 * b.val + l.val) := by
  rw [nat2_of _ R.isLt (show 128 * b.val + l.val < 2048 by omega)]
  have e : (⟨128 * b.val + l.val, by omega⟩ : Fin 2048) = ⟨b.val * 128 + l.val, by omega⟩ := Fin.ext (by dsimp only; omega)
  rw [e]
  pointwise [k0_pay3]

/-- The largest of each block. -/
def greatOf (u : FVec Ideal S12288x16x128 .f32) : FVec Ideal S12288x16 .f32 :=
  multiReduction .maximumf [2] S12288x16 u 0xFF800000#32 reduces_S12288x16x128_S12288x16 (.inl rfl) rfl

/-- The value of each block of `x` its scale is taken from. -/
def xval (v : FVec Ideal S12288x16x128 .f32) : FVec Ideal S12288x16 .f32 :=
  mulf (greatOf (absf v)) (broadcast S12288x16 (Scalar.ofBits .f32 0x3B124925#32))

/-- The powers of two, the ones above a value, and infinity for the others. -/
def cands (v : FVec Ideal S12288x16 .f32) : FVec Ideal S12288x16x252 .f32 :=
  select (cmpf .ogt (exp2 (sitofp .f32 (subi (iota .tc S12288x16x252 32 [2] iota_S12288x16x252_d2_w32) (broadcast S12288x16x252 125#32))))
      (broadcastTo S12288x16x252 (shapeCast S12288x16x1 v shapeCasts_S12288x16_S12288x16x1) broadcasts_S12288x16x1_S12288x16x252))
    (exp2 (sitofp .f32 (subi (iota .tc S12288x16x252 32 [2] iota_S12288x16x252_d2_w32) (broadcast S12288x16x252 125#32))))
    (broadcast S12288x16x252 (Scalar.ofBits .f32 0x7F800000#32))

/-- The least of them. -/
def leastOf (u : FVec Ideal S12288x16x252 .f32) : FVec Ideal S12288x16 .f32 :=
  multiReduction .minimumf [2] S12288x16 u 0x7F800000#32 reduces_S12288x16x252_S12288x16 (.inl rfl) rfl

theorem pay4_eq (P0 : Vec Ideal S12288x2048 .bf16) : k0_pay4 P0 =
    select (cmpf .olt (xval (k0_pay3 P0)) (broadcast S12288x16 (Scalar.ofBits .f32 0x00800000#32)))
      (broadcast S12288x16 (Scalar.ofBits .f32 0x3F800000#32)) (leastOf (cands (xval (k0_pay3 P0)))) := by
  sl_kernel_rfl

theorem greatOf_apply (u : FVec Ideal S12288x16x128 .f32) (R : Fin 12288) (b : Fin 16) :
    greatOf u (ix2 R b) = Finset.univ.fold max (Ideal.ofBits .f32 0xFF800000#32) fun l : Fin 128 => u (ix3 R b l) := by
  pointwise [greatOf]

theorem times_of {s : Shape} (v : FVec Ideal s .f32) (j : s.Idx) :
    mulf v (broadcast s (Scalar.ofBits .f32 0x3B124925#32)) j = v j * Ideal.ofBits .f32 0x3B124925#32 := rfl

theorem abs_of {s : Shape} (v : FVec Ideal s .f32) (j : s.Idx) : absf v j = max (v j) (-(v j)) := rfl

theorem xval_apply (v : FVec Ideal S12288x16x128 .f32) (R : Fin 12288) (b : Fin 16) : xval v (ix2 R b) = top fun l => v (ix3 R b l) := by
  unfold top xval
  rw [times_of, greatOf_apply]
  congr 2

theorem cands_apply (v : FVec Ideal S12288x16 .f32) (R : Fin 12288) (b : Fin 16) (k : Fin 252) : cands v (ix3 R b k) = Scale.cand (v (ix2 R b)) k := by
  unfold Scale.cand
  pointwise [cands]
  rfl

theorem leastOf_apply (u : FVec Ideal S12288x16x252 .f32) (R : Fin 12288) (b : Fin 16) :
    leastOf u (ix2 R b) = Finset.univ.fold min (Ideal.ofBits .f32 0x7F800000#32) fun k : Fin 252 => u (ix3 R b k) := by
  pointwise [leastOf]

theorem scale_of {s : Shape} (v u : FVec Ideal s .f32) (j : s.Idx) :
    select (cmpf .olt v (broadcast s (Scalar.ofBits .f32 0x00800000#32))) (broadcast s (Scalar.ofBits .f32 0x3F800000#32)) u j
      = Scalar.select (Ideal.cmp .olt (v j) (Ideal.ofBits .f32 0x00800000#32)) (Ideal.ofBits .f32 0x3F800000#32) (u j) := rfl

theorem pay4_apply (P0 : Vec Ideal S12288x2048 .bf16) (R : Fin 12288) (b : Fin 16) :
    k0_pay4 P0 (ix2 R b) = Scale.least (xv (nat2 (m := 12288) (n := 2048) P0 R) b) := by
  have e : xval (k0_pay3 P0) (ix2 R b) = xv (nat2 (m := 12288) (n := 2048) P0 R) b := by
    rw [xval_apply]
    unfold xv
    congr 1
    funext l
    rw [pay3_apply]
  rw [pay4_eq, scale_of, leastOf_apply]
  unfold Scale.least
  simp only [cands_apply, e]

theorem clamp_of {s : Shape} (v : FVec Ideal s .f32) (j : s.Idx) :
    truncf .fp8e4m3 (minimumf (broadcast s (Scalar.ofBits .f32 0x43E00000#32)) (maximumf (broadcast s (Scalar.ofBits .f32 0xC3E00000#32)) v)) bitsLt_fp8e4m3_f32 j
      = clamp (v j) := rfl

/-- The blocks of `x` times the reciprocals of the scales. -/
def scaled (x : FVec Ideal S12288x16x128 .f32) (s : FVec Ideal S12288x16 .f32) : FVec Ideal S12288x16x128 .f32 :=
  mulf x (broadcastTo S12288x16x128 (shapeCast S12288x16x1 (divf (broadcast S12288x16 (Scalar.ofBits .f32 0x3F800000#32)) s)
    shapeCasts_S12288x16_S12288x16x1) broadcasts_S12288x16x1_S12288x16x128)

theorem scaled_apply (x : FVec Ideal S12288x16x128 .f32) (s : FVec Ideal S12288x16 .f32) (R : Fin 12288) (b : Fin 16) (l : Fin 128) :
    scaled x s (ix3 R b l) = x (ix3 R b l) * Ideal.div (Ideal.ofBits .f32 0x3F800000#32) (s (ix2 R b)) := by
  pointwise [scaled]

theorem pay5_eq (P0 : Vec Ideal S12288x2048 .bf16) : k0_pay5 P0 = shapeCast S12288x2048
    (truncf .fp8e4m3 (minimumf (broadcast S12288x16x128 (Scalar.ofBits .f32 0x43E00000#32)) (maximumf (broadcast S12288x16x128 (Scalar.ofBits .f32 0xC3E00000#32))
      (scaled (k0_pay3 P0) (k0_pay4 P0)))) bitsLt_fp8e4m3_f32) shapeCasts_S12288x16x128_S12288x2048 := by
  sl_kernel_rfl

theorem flat_apply {f : FTy} (u : FVec Ideal S12288x16x128 f) (R : Fin 12288) (k : Fin 2048) :
    shapeCast S12288x2048 u shapeCasts_S12288x16x128_S12288x2048 (ix2 R k) = u (ix3 R (⟨k.val / 128, by omega⟩ : Fin 16) (⟨k.val % 128, by omega⟩ : Fin 128)) := by
  pointwise

/-- The reference's codes of the row `x`. -/
def rxc (x : ℕ → EReal) (k : ℕ) : EReal := clamp (x k * Ideal.div (Ideal.ofBits .f32 0x3F800000#32) (Scale.least (xv x (k / 128))))

theorem pay5_apply (P0 : Vec Ideal S12288x2048 .bf16) (R : Fin 12288) (k : Fin 2048) :
    k0_pay5 P0 (ix2 R k) = rxc (nat2 (m := 12288) (n := 2048) P0 R) k := by
  rw [pay5_eq, flat_apply, clamp_of, scaled_apply, pay3_apply, pay4_apply]
  unfold rxc
  dsimp only
  rw [Nat.div_add_mod]

/-- The codes times the scales. -/
def deq (q : FVec Ideal S12288x2048 .fp8e4m3) (s : FVec Ideal S12288x16 .f32) : FVec Ideal S12288x16x128 .bf16 :=
  mulf (shapeCast S12288x16x128 (extf .bf16 q bitsLt_fp8e4m3_bf16) shapeCasts_S12288x2048_S12288x16x128)
    (broadcastTo S12288x16x128 (shapeCast S12288x16x1 (truncf .bf16 s bitsLt_bf16_f32) shapeCasts_S12288x16_S12288x16x1) broadcasts_S12288x16x1_S12288x16x128)

theorem deq_apply (q : FVec Ideal S12288x2048 .fp8e4m3) (s : FVec Ideal S12288x16 .f32) (R : Fin 12288) (b : Fin 16) (l : Fin 128) :
    deq q s (ix3 R b l) = q (ix2 R (⟨b.val * 128 + l.val, by omega⟩ : Fin 2048)) * s (ix2 R b) := by
  pointwise [deq]

theorem pay6_apply (P0 : Vec Ideal S12288x2048 .bf16) (R : Fin 12288) (k : Fin 2048) :
    k0_pay6 P0 (ix2 R k) = rxc (nat2 (m := 12288) (n := 2048) P0 R) k * Scale.least (xv (nat2 (m := 12288) (n := 2048) P0 R) (k.val / 128)) := by
  have e : k0_pay6 P0 = shapeCast S12288x2048 (deq (k0_pay5 P0) (k0_pay4 P0)) shapeCasts_S12288x16x128_S12288x2048 := rfl
  rw [e, flat_apply, deq_apply, pay5_apply, pay4_apply]
  dsimp only
  rw [Nat.div_add_mod']

/-- The weight times its scales. -/
def wdeq (w : FVec Ideal S16x128x64x128 .bf16) (s : Vec Ideal S16x64 .f32) : FVec Ideal S2048x8192 .bf16 :=
  shapeCast S2048x8192 (mulf w (broadcastTo S16x128x64x128 (shapeCast S16x1x64x1 (truncf .bf16 s bitsLt_bf16_f32) shapeCasts_S16x64_S16x1x64x1)
    broadcasts_S16x1x64x1_S16x128x64x128)) shapeCasts_S16x128x64x128_S2048x8192

theorem wdeq_apply (w : Vec Ideal S2048x8192 .fp8e4m3) (s : Vec Ideal S16x64 .f32) (k : Fin 2048) (j : Fin 8192) :
    wdeq (k0_pay7 w) s (ix2 k j) = w (ix2 k j) * nat2 (m := 16) (n := 64) s (k.val / 128) (j.val / 128) := by
  rw [nat2_of _ (show k.val / 128 < 16 by omega) (show j.val / 128 < 64 by omega)]
  pointwise [wdeq, k0_pay7]

/-- The product and the residual. -/
def added (a : FVec Ideal S12288x2048 .bf16) (w : FVec Ideal S2048x8192 .bf16) (r : Vec Ideal S12288x8192 .bf16) : FVec Ideal S12288x8192 .bf16 :=
  truncf .bf16 (addf (matmul dot_S12288x2048_S2048x8192_S12288x8192_1_0_0_1_n_n none a w (constant S12288x8192 .f32 0x00000000#32))
    (extf .f32 (shapeCast S12288x8192 r shapeCasts_S12288x8192_S12288x8192) bitsLt_bf16_f32)) bitsLt_bf16_f32

theorem added_apply (a : FVec Ideal S12288x2048 .bf16) (w : FVec Ideal S2048x8192 .bf16) (r : Vec Ideal S12288x8192 .bf16) (R : Fin 12288) (j : Fin 8192) :
    added a w r (ix2 R j) = (∑ k : Fin 2048, a (ix2 R k) * w (ix2 k j)) + r (ix2 R j) := by
  pointwise [added]

theorem pay8_eq (a : FVec Ideal S12288x2048 .bf16) (w : FVec Ideal S16x128x64x128 .bf16) (s : Vec Ideal S16x64 .f32) (r : Vec Ideal S12288x8192 .bf16) :
    k0_pay8 a w s r = added a (wdeq w s) r := by
  sl_kernel_rfl

/-- The reference's sum of the product and the residual. -/
def rro (x : ℕ → EReal) (w : ℕ → ℕ → EReal) (res : ℕ → EReal) (j : ℕ) : EReal :=
  (∑ k : Fin 2048, rxc x k.val * Scale.least (xv x (k.val / 128)) * w k.val j) + res j

section Out

variable (P0 : Vec Ideal S12288x2048 .bf16) (P1 : Vec Ideal S2048x8192 .fp8e4m3) (P2 : Vec Ideal S16x64 .f32) (P3 : Vec Ideal S12288x8192 .bf16)
  (P4 : Vec Ideal S1x8192 .bf16) (R : Fin 12288)

/-- The dequantised weight. -/
def wf (P1 : Vec Ideal S2048x8192 .fp8e4m3) (P2 : Vec Ideal S16x64 .f32) (k j : ℕ) : EReal :=
  nat2 (m := 2048) (n := 8192) P1 k j * nat2 (m := 16) (n := 64) P2 (k / 128) (j / 128)

/-- The row of sums. -/
def rrow : ℕ → EReal := rro (nat2 (m := 12288) (n := 2048) P0 R) (wf P1 P2) (nat2 (m := 12288) (n := 8192) P3 R)

theorem pay8_apply (j : Fin 8192) : k0_pay8 (k0_pay6 P0) (k0_pay7 P1) P2 P3 (ix2 R j) = rrow P0 P1 P2 P3 R j := by
  rw [pay8_eq, added_apply]
  unfold rrow rro
  rw [nat2_fin]
  congr 1
  refine Finset.sum_congr rfl fun k _ => ?_
  rw [pay6_apply, wdeq_apply]
  unfold wf
  rw [nat2_fin]

/-- The factor that normalises the row `r`, as the reference has it. -/
def rrstd (r : ℕ → EReal) : EReal :=
  Ideal.rsqrt (Ideal.div (∑ j : Fin 8192, r j.val * r j.val) (Ideal.ofBits .f32 0x46000000#32) + Ideal.ofBits .f32 0x358637BD#32)

/-- The rows' factors. -/
def rstds (v : FVec Ideal S12288x8192 .f32) : FVec Ideal S12288x1 .f32 :=
  rsqrt (addf (divf (shapeCast S12288x1 (multiReduction .add [1] S12288 (mulf v v) 0x00000000#32 reduces_S12288x8192_S12288 (.inl rfl) rfl)
    shapeCasts_S12288_S12288x1) (broadcast S12288x1 (Scalar.ofBits .f32 0x46000000#32))) (broadcast S12288x1 (Scalar.ofBits .f32 0x358637BD#32)))

theorem rstds_apply (v : FVec Ideal S12288x8192 .f32) (r : ℕ → EReal) (h : ∀ j : Fin 8192, v (ix2 R j) = r j) : rstds v (ix2 R (0 : Fin 1)) = rrstd r := by
  unfold rrstd
  simp only [← h]
  pointwise [rstds]

/-- The rows normalised. -/
def normed (v : FVec Ideal S12288x8192 .f32) (s : FVec Ideal S12288x1 .f32) (g : Vec Ideal S1x8192 .bf16) : FVec Ideal S12288x1x8192 .f32 :=
  shapeCast S12288x1x8192 (mulf (mulf v (broadcastTo S12288x8192 s broadcasts_S12288x1_S12288x8192))
    (broadcastTo S12288x8192 (extf .f32 (shapeCast S1x8192 g shapeCasts_S1x8192_S1x8192) bitsLt_bf16_f32) broadcasts_S1x8192_S12288x8192))
    shapeCasts_S12288x8192_S12288x1x8192

theorem normed_apply (v : FVec Ideal S12288x8192 .f32) (s : FVec Ideal S12288x1 .f32) (g : Vec Ideal S1x8192 .bf16) (j : Fin 8192) :
    normed v s g (ix3 R (0 : Fin 1) j) = v (ix2 R j) * s (ix2 R (0 : Fin 1)) * g (ix2 (0 : Fin 1) j) := by
  pointwise [normed]

theorem pay9_eq (a : FVec Ideal S12288x2048 .bf16) (w : FVec Ideal S16x128x64x128 .bf16) :
    k0_pay9 a w P2 P3 P4 = normed (extf .f32 (k0_pay8 a w P2 P3) bitsLt_bf16_f32) (rstds (extf .f32 (k0_pay8 a w P2 P3) bitsLt_bf16_f32)) P4 := by
  sl_kernel_rfl

/-- The normalised row. -/
def ny (r g : ℕ → EReal) (j : ℕ) : EReal := r j * rrstd r * g j

theorem ext_of (u : FVec Ideal S12288x8192 .bf16) (j : S12288x8192.Idx) : extf .f32 u bitsLt_bf16_f32 j = u j := rfl

theorem pay9_apply (j : Fin 8192) : k0_pay9 (k0_pay6 P0) (k0_pay7 P1) P2 P3 P4 (ix3 R (0 : Fin 1) j)
    = ny (rrow P0 P1 P2 P3 R) (nat2 (m := 1) (n := 8192) P4 0) j := by
  rw [pay9_eq, normed_apply, rstds_apply R _ (rrow P0 P1 P2 P3 R) (fun j => by rw [ext_of, pay8_apply]), ext_of, pay8_apply]
  unfold ny
  rw [nat2_of P4 (show 0 < 1 by omega) j.isLt]
  rfl

/-- The value the scale of the normalised row is taken from, as the reference has it. -/
def ryv (r g : ℕ → EReal) : EReal :=
  Finset.univ.fold max (Ideal.ofBits .f32 0xFF800000#32) (fun j : Fin 8192 => max (ny r g j.val) (-(ny r g j.val))) * Ideal.ofBits .f32 0x3B124925#32

/-- The largest of each row. -/
def ygreatOf (u : FVec Ideal S12288x1x8192 .f32) : FVec Ideal S12288x1 .f32 :=
  multiReduction .maximumf [2] S12288x1 u 0xFF800000#32 reduces_S12288x1x8192_S12288x1 (.inl rfl) rfl

/-- The value of each row. -/
def yval (v : FVec Ideal S12288x1x8192 .f32) : FVec Ideal S12288x1 .f32 :=
  mulf (ygreatOf (absf v)) (broadcast S12288x1 (Scalar.ofBits .f32 0x3B124925#32))

theorem ygreatOf_apply (u : FVec Ideal S12288x1x8192 .f32) : ygreatOf u (ix2 R (0 : Fin 1)) =
    Finset.univ.fold max (Ideal.ofBits .f32 0xFF800000#32) fun j : Fin 8192 => u (ix3 R (0 : Fin 1) j) := by
  pointwise [ygreatOf]

theorem yval_apply (v : FVec Ideal S12288x1x8192 .f32) : yval v (ix2 R (0 : Fin 1)) =
    Finset.univ.fold max (Ideal.ofBits .f32 0xFF800000#32) (fun j : Fin 8192 => max (v (ix3 R (0 : Fin 1) j)) (-(v (ix3 R (0 : Fin 1) j))))
      * Ideal.ofBits .f32 0x3B124925#32 := by
  unfold yval
  rw [times_of, ygreatOf_apply]
  congr 2

theorem pay10_apply : k0_pay10 (k0_pay6 P0) (k0_pay7 P1) P2 P3 P4 (ix2 R (0 : Fin 1)) = ryv (rrow P0 P1 P2 P3 R) (nat2 (m := 1) (n := 8192) P4 0) := by
  have e : k0_pay10 (k0_pay6 P0) (k0_pay7 P1) P2 P3 P4 = yval (k0_pay9 (k0_pay6 P0) (k0_pay7 P1) P2 P3 P4) := rfl
  rw [e, yval_apply]
  unfold ryv
  simp only [pay9_apply]

/-- The powers of two for the rows, the ones above a value, and infinity for the others. -/
def ycands (v : FVec Ideal S12288x1 .f32) : FVec Ideal S12288x1x252 .f32 :=
  select (cmpf .ogt (exp2 (sitofp .f32 (subi (iota .tc S12288x1x252 32 [2] iota_S12288x1x252_d2_w32) (broadcast S12288x1x252 125#32))))
      (broadcastTo S12288x1x252 (shapeCast S12288x1x1 v shapeCasts_S12288x1_S12288x1x1) broadcasts_S12288x1x1_S12288x1x252))
    (exp2 (sitofp .f32 (subi (iota .tc S12288x1x252 32 [2] iota_S12288x1x252_d2_w32) (broadcast S12288x1x252 125#32))))
    (broadcast S12288x1x252 (Scalar.ofBits .f32 0x7F800000#32))

/-- The least of them. -/
def yleastOf (u : FVec Ideal S12288x1x252 .f32) : FVec Ideal S12288x1 .f32 :=
  multiReduction .minimumf [2] S12288x1 u 0x7F800000#32 reduces_S12288x1x252_S12288x1 (.inl rfl) rfl

theorem ycands_apply (v : FVec Ideal S12288x1 .f32) (k : Fin 252) : ycands v (ix3 R (0 : Fin 1) k) = Scale.cand (v (ix2 R (0 : Fin 1))) k := by
  unfold Scale.cand
  pointwise [ycands]
  rfl

theorem yleastOf_apply (u : FVec Ideal S12288x1x252 .f32) :
    yleastOf u (ix2 R (0 : Fin 1)) = Finset.univ.fold min (Ideal.ofBits .f32 0x7F800000#32) fun k : Fin 252 => u (ix3 R (0 : Fin 1) k) := by
  pointwise [yleastOf]

theorem pay1_apply : k0_pay1 (k0_pay11 (k0_pay6 P0) (k0_pay7 P1) P2 P3 P4) (k0_pay12 (k0_pay6 P0) (k0_pay7 P1) P2 P3 P4) (ix2 R (0 : Fin 1))
    = Scale.least (ryv (rrow P0 P1 P2 P3 R) (nat2 (m := 1) (n := 8192) P4 0)) := by
  have e : k0_pay1 (k0_pay11 (k0_pay6 P0) (k0_pay7 P1) P2 P3 P4) (k0_pay12 (k0_pay6 P0) (k0_pay7 P1) P2 P3 P4)
      = select (cmpf .olt (k0_pay10 (k0_pay6 P0) (k0_pay7 P1) P2 P3 P4) (broadcast S12288x1 (Scalar.ofBits .f32 0x00800000#32)))
        (broadcast S12288x1 (Scalar.ofBits .f32 0x3F800000#32)) (yleastOf (ycands (k0_pay10 (k0_pay6 P0) (k0_pay7 P1) P2 P3 P4))) := by
    sl_kernel_rfl
  rw [e, scale_of, yleastOf_apply]
  unfold Scale.least
  simp only [ycands_apply, pay10_apply]

/-- The normalised rows times the reciprocals of the scales. -/
def yscaled (y : FVec Ideal S12288x1x8192 .f32) (s : FVec Ideal S12288x1 .f32) : FVec Ideal S12288x1x8192 .f32 :=
  mulf y (broadcastTo S12288x1x8192 (shapeCast S12288x1x1 (divf (broadcast S12288x1 (Scalar.ofBits .f32 0x3F800000#32)) s)
    shapeCasts_S12288x1_S12288x1x1) broadcasts_S12288x1x1_S12288x1x8192)

theorem yscaled_apply (y : FVec Ideal S12288x1x8192 .f32) (s : FVec Ideal S12288x1 .f32) (j : Fin 8192) :
    yscaled y s (ix3 R (0 : Fin 1) j) = y (ix3 R (0 : Fin 1) j) * Ideal.div (Ideal.ofBits .f32 0x3F800000#32) (s (ix2 R (0 : Fin 1))) := by
  pointwise [yscaled]

theorem yflat_apply (u : FVec Ideal S12288x1x8192 .fp8e4m3) (j : Fin 8192) :
    shapeCast S12288x8192 u shapeCasts_S12288x1x8192_S12288x8192 (ix2 R j) = u (ix3 R (0 : Fin 1) j) := by
  pointwise

/-- The reference's codes of the normalised row. -/
def ryc (r g : ℕ → EReal) (j : ℕ) : EReal := clamp (ny r g j * Ideal.div (Ideal.ofBits .f32 0x3F800000#32) (Scale.least (ryv r g)))

theorem pay2_apply (j : Fin 8192) :
    k0_pay2 (k0_pay9 (k0_pay6 P0) (k0_pay7 P1) P2 P3 P4) (k0_pay11 (k0_pay6 P0) (k0_pay7 P1) P2 P3 P4) (k0_pay12 (k0_pay6 P0) (k0_pay7 P1) P2 P3 P4) (ix2 R j)
      = ryc (rrow P0 P1 P2 P3 R) (nat2 (m := 1) (n := 8192) P4 0) j := by
  have e : ∀ y v p, k0_pay2 (F := Ideal) y v p = shapeCast S12288x8192
      (truncf .fp8e4m3 (minimumf (broadcast S12288x1x8192 (Scalar.ofBits .f32 0x43E00000#32)) (maximumf (broadcast S12288x1x8192 (Scalar.ofBits .f32 0xC3E00000#32))
        (yscaled y (k0_pay1 v p)))) bitsLt_fp8e4m3_f32) shapeCasts_S12288x1x8192_S12288x8192 := fun y v p => by sl_kernel_rfl
  rw [e, yflat_apply, clamp_of, yscaled_apply, pay9_apply, pay1_apply]
  rfl

end Out

end Cert.ReferenceIdeal.Gen
-- ==== Proof.RefPoints.lean ====
/- What the reference's five result arrays hold after the run, over the extended reals. -/
module

public import proofs.«01_k».proof.Proof.RefRows
public import Idealize.ShloMosaic.Lib.Pipeline.ValueKit

@[expose] public section

set_option maxRecDepth 16384

noncomputable section

namespace Cert.ReferenceIdeal.Gen

open Cert.Spec
open Idealize.ShloMosaic Idealize.ShloMosaic.TcCoe Idealize.ShloMosaic.Tactic

section Out

variable (x0 : Vec Ideal S12288x2048 .bf16) (x1 : Vec Ideal S2048x8192 .fp8e4m3) (x2 : Vec Ideal S16x64 .f32) (x3 : Vec Ideal S12288x8192 .bf16)
  (x4 : Vec Ideal S1x8192 .bf16)

theorem ld0 : View.ld x0 r0_0 = x0 := View.ld_unit_lit (S := S12288x2048) inb_S12288x2048_S12288x2048_0_0 x0 (by decide)
theorem ld1 : View.ld x1 r0_1 = x1 := View.ld_unit_lit (S := S2048x8192) inb_S2048x8192_S2048x8192_0_0 x1 (by decide)
theorem ld2 : View.ld x2 r0_2 = x2 := View.ld_unit_lit (S := S16x64) inb_S16x64_S16x64_0_0 x2 (by decide)
theorem ld3 : View.ld x3 r0_3 = x3 := View.ld_unit_lit (S := S12288x8192) inb_S12288x8192_S12288x8192_0_0 x3 (by decide)
theorem ld4 : View.ld x4 r0_4 = x4 := View.ld_unit_lit (S := S1x8192) inb_S1x8192_S1x8192_0_0 x4 (by decide)

theorem out_5 : out0_5 x0 x1 x2 x3 x4 = k0_pay8 (k0_pay6 x0) (k0_pay7 x1) x2 x3 := by
  unfold out0_5 k0_pay13 k0_pay14
  rw [ld0, ld1, ld2, ld3]
  exact View.canon_cons_unit_lit (S := S12288x8192) inb_S12288x8192_S12288x8192_0_0 _ [] (by decide)

theorem out_6 : out0_6 x0 x1 x2 x3 x4 = k0_pay5 x0 := by
  unfold out0_6
  rw [ld0]
  exact View.canon_cons_unit_lit (S := S12288x2048) inb_S12288x2048_S12288x2048_0_0 _ [] (by decide)

theorem out_7 : out0_7 x0 x1 x2 x3 x4 = k0_pay4 x0 := by
  unfold out0_7
  rw [ld0]
  exact View.canon_cons_unit_lit (S := S12288x16) inb_S12288x16_S12288x16_0_0 _ [] (by decide)

theorem out_8 : out0_8 x0 x1 x2 x3 x4 = k0_pay2 (k0_pay9 (k0_pay6 x0) (k0_pay7 x1) x2 x3 x4) (k0_pay11 (k0_pay6 x0) (k0_pay7 x1) x2 x3 x4)
    (k0_pay12 (k0_pay6 x0) (k0_pay7 x1) x2 x3 x4) := by
  unfold out0_8 k0_pay16 k0_pay15 k0_pay13 k0_pay14
  rw [ld0, ld1, ld2, ld3, ld4]
  exact View.canon_cons_unit_lit (S := S12288x8192) inb_S12288x8192_S12288x8192_0_0 _ [] (by decide)

theorem out_9 : out0_9 x0 x1 x2 x3 x4 = k0_pay1 (k0_pay11 (k0_pay6 x0) (k0_pay7 x1) x2 x3 x4) (k0_pay12 (k0_pay6 x0) (k0_pay7 x1) x2 x3 x4) := by
  unfold out0_9 k0_pay16 k0_pay15 k0_pay13 k0_pay14
  rw [ld0, ld1, ld2, ld3, ld4]
  exact View.canon_cons_unit_lit (S := S12288x1) inb_S12288x1_S12288x1_0_0 _ [] (by decide)

end Out

variable (m : (ℓ : Loc nD τ sig) → Buf (Elt Ideal) ℓ) (c : Dev nD)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)

theorem iblk0 (t : Fin cfg0.N) : iblk m c 0 t = V m c main_v0 := by
  have hi := index0 t
  funext j
  unfold iblk
  rw [View.read_apply]
  show V m c main_v0 _ = V m c main_v0 _
  congr 1
  funext a
  apply Fin.ext
  match a with
  | ⟨0, _⟩ => show win0_0.index t 0 * 12288 + 1 * (j 0).val = (j 0).val; rw [hi.1]; omega
  | ⟨1, _⟩ => show win0_0.index t 1 * 2048 + 1 * (j 1).val = (j 1).val; rw [hi.2]; omega

theorem iblk1 (t : Fin cfg0.N) : iblk m c 1 t = V m c main_arg1 := by
  have hi := index1 t
  funext j
  unfold iblk
  rw [View.read_apply]
  show V m c main_arg1 _ = V m c main_arg1 _
  congr 1
  funext a
  apply Fin.ext
  match a with
  | ⟨0, _⟩ => show win0_1.index t 0 * 2048 + 1 * (j 0).val = (j 0).val; rw [hi.1]; omega
  | ⟨1, _⟩ => show win0_1.index t 1 * 8192 + 1 * (j 1).val = (j 1).val; rw [hi.2]; omega

theorem iblk2 (t : Fin cfg0.N) : iblk m c 2 t = V m c main_arg2 := by
  have hi := index2 t
  funext j
  unfold iblk
  rw [View.read_apply]
  show V m c main_arg2 _ = V m c main_arg2 _
  congr 1
  funext a
  apply Fin.ext
  match a with
  | ⟨0, _⟩ => show win0_2.index t 0 * 16 + 1 * (j 0).val = (j 0).val; rw [hi.1]; omega
  | ⟨1, _⟩ => show win0_2.index t 1 * 64 + 1 * (j 1).val = (j 1).val; rw [hi.2]; omega

theorem iblk3 (t : Fin cfg0.N) : iblk m c 3 t = V m c main_v1 := by
  have hi := index3 t
  funext j
  unfold iblk
  rw [View.read_apply]
  show V m c main_v1 _ = V m c main_v1 _
  congr 1
  funext a
  apply Fin.ext
  match a with
  | ⟨0, _⟩ => show win0_3.index t 0 * 12288 + 1 * (j 0).val = (j 0).val; rw [hi.1]; omega
  | ⟨1, _⟩ => show win0_3.index t 1 * 8192 + 1 * (j 1).val = (j 1).val; rw [hi.2]; omega

theorem iblk4 (t : Fin cfg0.N) : iblk m c 4 t = V m c main_v2 := by
  have hi := index4 t
  funext j
  unfold iblk
  rw [View.read_apply]
  show V m c main_v2 _ = V m c main_v2 _
  congr 1
  funext a
  apply Fin.ext
  match a with
  | ⟨0, _⟩ => show win0_4.index t 0 * 1 + 1 * (j 0).val = (j 0).val; rw [hi.1]; omega
  | ⟨1, _⟩ => show win0_4.index t 1 * 8192 + 1 * (j 1).val = (j 1).val; rw [hi.2]; omega

/-- The row of sums. -/
def row (R : Fin 12288) : ℕ → EReal := rrow (V m c main_v0) (V m c main_arg1) (V m c main_arg2) (V m c main_v1) R

theorem array_5 (R : Fin 12288) (j : Fin 8192) : ((dats m 0 c).arrAt 5 cfg0.N : Vec Ideal S12288x8192 .bf16) (ix2 R j) = row m c R j := by
  let t : Fin cfg0.N := ⟨0, by decide⟩
  have h := congrFun (Value.blocks5 m c t (flush0_5 t)) (ix2 R j)
  rw [View.read_apply, Value.flushed5, iblk0, iblk1, iblk2, iblk3, iblk4, out_5] at h
  have hi := index5 t
  refine Eq.trans ?_ (h.trans (pay8_apply _ _ _ _ R j))
  show (dats m 0 c).arrAt 5 cfg0.N _ = (dats m 0 c).arrAt 5 cfg0.N _
  congr 1
  funext a
  apply Fin.ext
  match a with
  | ⟨0, _⟩ => show R.val = win0_5.index t 0 * 12288 + 1 * R.val; rw [hi.1]; omega
  | ⟨1, _⟩ => show j.val = win0_5.index t 1 * 8192 + 1 * j.val; rw [hi.2]; omega

theorem array_6 (R : Fin 12288) (k : Fin 2048) : ((dats m 0 c).arrAt 6 cfg0.N : Vec Ideal S12288x2048 .fp8e4m3) (ix2 R k) = rxc (nat2 (m := 12288) (n := 2048) (V m c main_v0) R) k := by
  let t : Fin cfg0.N := ⟨0, by decide⟩
  have h := congrFun (Value.blocks6 m c t (flush0_6 t)) (ix2 R k)
  rw [View.read_apply, Value.flushed6, iblk0, iblk1, iblk2, iblk3, iblk4, out_6] at h
  have hi := index6 t
  refine Eq.trans ?_ (h.trans (pay5_apply _ R k))
  show (dats m 0 c).arrAt 6 cfg0.N _ = (dats m 0 c).arrAt 6 cfg0.N _
  congr 1
  funext a
  apply Fin.ext
  match a with
  | ⟨0, _⟩ => show R.val = win0_6.index t 0 * 12288 + 1 * R.val; rw [hi.1]; omega
  | ⟨1, _⟩ => show k.val = win0_6.index t 1 * 2048 + 1 * k.val; rw [hi.2]; omega

theorem array_7 (R : Fin 12288) (b : Fin 16) : ((dats m 0 c).arrAt 7 cfg0.N : Vec Ideal S12288x16 .f32) (ix2 R b) = Scale.least (xv (nat2 (m := 12288) (n := 2048) (V m c main_v0) R) b) := by
  let t : Fin cfg0.N := ⟨0, by decide⟩
  have h := congrFun (Value.blocks7 m c t (flush0_7 t)) (ix2 R b)
  rw [View.read_apply, Value.flushed7, iblk0, iblk1, iblk2, iblk3, iblk4, out_7] at h
  have hi := index7 t
  refine Eq.trans ?_ (h.trans (pay4_apply _ R b))
  show (dats m 0 c).arrAt 7 cfg0.N _ = (dats m 0 c).arrAt 7 cfg0.N _
  congr 1
  funext a
  apply Fin.ext
  match a with
  | ⟨0, _⟩ => show R.val = win0_7.index t 0 * 12288 + 1 * R.val; rw [hi.1]; omega
  | ⟨1, _⟩ => show b.val = win0_7.index t 1 * 16 + 1 * b.val; rw [hi.2]; omega

theorem array_8 (R : Fin 12288) (j : Fin 8192) : ((dats m 0 c).arrAt 8 cfg0.N : Vec Ideal S12288x8192 .fp8e4m3) (ix2 R j) = ryc (row m c R) (nat2 (m := 1) (n := 8192) (V m c main_v2) 0) j := by
  let t : Fin cfg0.N := ⟨0, by decide⟩
  have h := congrFun (Value.blocks8 m c t (flush0_8 t)) (ix2 R j)
  rw [View.read_apply, Value.flushed8, iblk0, iblk1, iblk2, iblk3, iblk4, out_8] at h
  have hi := index8 t
  refine Eq.trans ?_ (h.trans (pay2_apply _ _ _ _ _ R j))
  show (dats m 0 c).arrAt 8 cfg0.N _ = (dats m 0 c).arrAt 8 cfg0.N _
  congr 1
  funext a
  apply Fin.ext
  match a with
  | ⟨0, _⟩ => show R.val = win0_8.index t 0 * 12288 + 1 * R.val; rw [hi.1]; omega
  | ⟨1, _⟩ => show j.val = win0_8.index t 1 * 8192 + 1 * j.val; rw [hi.2]; omega

theorem array_9 (R : Fin 12288) : ((dats m 0 c).arrAt 9 cfg0.N : Vec Ideal S12288x1 .f32) (ix2 R (0 : Fin 1)) = Scale.least (ryv (row m c R) (nat2 (m := 1) (n := 8192) (V m c main_v2) 0)) := by
  let t : Fin cfg0.N := ⟨0, by decide⟩
  have h := congrFun (Value.blocks9 m c t (flush0_9 t)) (ix2 R (0 : Fin 1))
  rw [View.read_apply, Value.flushed9, iblk0, iblk1, iblk2, iblk3, iblk4, out_9] at h
  have hi := index9 t
  refine Eq.trans ?_ (h.trans (pay1_apply _ _ _ _ _ R))
  show (dats m 0 c).arrAt 9 cfg0.N _ = (dats m 0 c).arrAt 9 cfg0.N _
  congr 1
  funext a
  apply Fin.ext
  match a with
  | ⟨0, _⟩ => show R.val = win0_9.index t 0 * 12288 + 1 * R.val; rw [hi.1]; omega
  | ⟨1, _⟩ => show 0 = win0_9.index t 1 * 1 + 1 * 0; rw [hi.2]

end Cert.ReferenceIdeal.Gen
-- ==== Proof.Host.lean ====
/- What the kernel's region and the reference's find in the arrays the host prepares, in terms of the arguments. -/
module

public import proofs.«01_k».proof.Proof.Points
public import proofs.«01_k».proof.Proof.RefPoints

@[expose] public section

set_option maxRecDepth 16384

noncomputable section

open Idealize.ShloMosaic Idealize.ShloMosaic.TcCoe Idealize.ShloMosaic.Tactic
open Cert.Spec (nat2 nat3 nat2_of nat3_of)

namespace Cert.KernelIdeal.Gen

variable (m : (ℓ : Loc nD τ sig) → Buf (Elt Ideal) ℓ) (c : Dev nD)

theorem V_v3 : (V m c main_v3 : Vec Ideal S12288x2048 .bf16)
    = shapeCast S12288x2048 (m ((c : Thread nD τ).loc main_arg0) : Vec Ideal S8x1536x2048 .bf16) shapeCasts_S8x1536x2048_S12288x2048 := by
  sl_kernel_rfl

theorem V_v4 : (V m c main_v4 : Vec Ideal S1x2048x8192 .fp8e4m3)
    = shapeCast S1x2048x8192 (m ((c : Thread nD τ).loc main_arg1) : Vec Ideal S2048x8192 .fp8e4m3) shapeCasts_S2048x8192_S1x2048x8192 := by
  sl_kernel_rfl

theorem V_v5 : (V m c main_v5 : Vec Ideal S12288x8192 .bf16)
    = shapeCast S12288x8192 (m ((c : Thread nD τ).loc main_arg3) : Vec Ideal S8x1536x8192 .bf16) shapeCasts_S8x1536x8192_S12288x8192 := by
  sl_kernel_rfl

theorem V_v6 : (V m c main_v6 : Vec Ideal S1x8192 .bf16)
    = shapeCast S1x8192 (m ((c : Thread nD τ).loc main_arg4) : Vec Ideal S8192 .bf16) shapeCasts_S8192_S1x8192 := by
  sl_kernel_rfl

/-- The scales of the weight, each repeated over its columns. -/
def repeated (s : FVec Ideal S16x64 .f32) : FVec Ideal S16x8192 .bf16 :=
  truncf .bf16 (shapeCast S16x8192 (broadcastInDim S16x64x128 ![0, 1] bcast_S16x64_S16x64x128_0_1 s) shapeCasts_S16x64x128_S16x8192) bitsLt_bf16_f32

theorem V_v2 : (V m c main_v2 : Vec Ideal S16x8192 .bf16) = repeated (m ((c : Thread nD τ).loc main_arg2)) := by
  sl_kernel_rfl

theorem repeated_apply (s : FVec Ideal S16x64 .f32) (b : Fin 16) (j : Fin 8192) : repeated s (ix2 b j) = s (ix2 b (⟨j.val / 128, by omega⟩ : Fin 64)) := by
  pointwise [repeated]

theorem raised_apply (w : Vec Ideal S2048x8192 .fp8e4m3) (k : Fin 2048) (j : Fin 8192) :
    shapeCast S1x2048x8192 w shapeCasts_S2048x8192_S1x2048x8192 (ix3 (0 : Fin 1) k j) = w (ix2 k j) := by
  pointwise

theorem gw_eq : gw m c = Cert.ReferenceIdeal.Gen.wf (m ((c : Thread nD τ).loc main_arg1)) (m ((c : Thread nD τ).loc main_arg2)) := by
  funext k j
  unfold gw Cert.ReferenceIdeal.Gen.wf gs
  by_cases h : k < 2048 ∧ j < 8192
  · rw [nat3_of _ h.1 h.2, nat2_of _ h.1 h.2, nat2_of _ (show k / 128 < 16 by omega) h.2, nat2_of _ (show k / 128 < 16 by omega) (show j / 128 < 64 by omega)]
    rw [V_v4, V_v2]
    refine congrArg₂ (fun a b : EReal => a * b) (raised_apply _ _ _) (repeated_apply _ _ _)
  · unfold nat3 nat2
    rw [dif_neg h, dif_neg h, zero_mul, zero_mul]

end Cert.KernelIdeal.Gen

namespace Cert.ReferenceIdeal.Gen

variable (m : (ℓ : Loc nD τ sig) → Buf (Elt Ideal) ℓ) (c : Dev nD)

theorem V_v0 : (V m c main_v0 : Vec Ideal S12288x2048 .bf16)
    = shapeCast S12288x2048 (m ((c : Thread nD τ).loc main_arg0) : Vec Ideal S8x1536x2048 .bf16) shapeCasts_S8x1536x2048_S12288x2048 := by
  sl_kernel_rfl

theorem V_v1 : (V m c main_v1 : Vec Ideal S12288x8192 .bf16)
    = shapeCast S12288x8192 (m ((c : Thread nD τ).loc main_arg3) : Vec Ideal S8x1536x8192 .bf16) shapeCasts_S8x1536x8192_S12288x8192 := by
  sl_kernel_rfl

theorem V_v2 : (V m c main_v2 : Vec Ideal S1x8192 .bf16)
    = shapeCast S1x8192 (m ((c : Thread nD τ).loc main_arg4) : Vec Ideal S8192 .bf16) shapeCasts_S8192_S1x8192 := by
  sl_kernel_rfl

end Cert.ReferenceIdeal.Gen
-- ==== Proof.Same.lean ====
/- The rows the kernel leaves are the rows the reference leaves, where `x` and the gains are within bfloat16's finite range. -/
module

public import proofs.«01_k».proof.Proof.RefRows

@[expose] public section

noncomputable section

namespace Cert.Same

open Cert.Spec
open Cert.ReferenceIdeal.Gen (rxc rro rrstd ny ryv ryc)
open Idealize.ShloMosaic

/-! ## Constants -/

theorem neg_inf : Ideal.ofBits .f32 0xFF800000#32 = ⊥ := by simp [Ideal.ofBits, Ideal.ieee]

theorem big_eq : Ideal.ofBits .bf16 0x7F7F#16 = ((255 * 2 ^ 120 : ℝ) : EReal) := by
  simp [Ideal.ofBits, Ideal.ieee, -EReal.coe_mul]

theorem c448_eq : Ideal.ofBits .f32 0x3B124925#32 = ((9586981 / 2 ^ 32 : ℝ) : EReal) := by
  simp [Ideal.ofBits, Ideal.ieee, -EReal.coe_mul]; norm_num

theorem n8192_eq : Ideal.ofBits .f32 0x46000000#32 = ((8192 : ℝ) : EReal) := by
  simp [Ideal.ofBits, Ideal.ieee, -EReal.coe_mul]; norm_num

theorem inv8192_eq : Ideal.ofBits .f32 0x39000000#32 = (((8192 : ℝ)⁻¹ : ℝ) : EReal) := by
  simp [Ideal.ofBits, Ideal.ieee, -EReal.coe_mul]; norm_num

theorem eps_eq : Ideal.ofBits .f32 0x358637BD#32 = ((8796093 / 2 ^ 43 : ℝ) : EReal) := by
  simp [Ideal.ofBits, Ideal.ieee, -EReal.coe_mul]; norm_num

theorem pw253_eq : Scale.pw 253 = ((2 ^ 126 : ℝ) : EReal) := by
  unfold Scale.pw; rw [if_neg (by omega), if_neg (by omega)]; norm_num

/-- A value no larger than a real bound, over 448, is below `2 ^ 126`. -/
theorem below {v : EReal} {B : ℝ} (h : v ≤ B) (hB : B * (9586981 / 2 ^ 32) < 2 ^ 126) : v * Ideal.ofBits .f32 0x3B124925#32 < Scale.pw 253 := by
  rw [c448_eq, pw253_eq]
  refine lt_of_le_of_lt (mul_le_mul_of_nonneg_right h (EReal.coe_nonneg.mpr (by norm_num))) ?_
  rw [← EReal.coe_mul]
  exact EReal.coe_lt_coe_iff.mpr hB

theorem nonneg_c {v : EReal} (h : 0 ≤ v) : 0 ≤ v * Ideal.ofBits .f32 0x3B124925#32 := by
  rw [c448_eq]
  exact mul_nonneg h (EReal.coe_nonneg.mpr (by norm_num))

theorem abs_nonneg' (a : EReal) : 0 ≤ max a (-a) := by
  rcases le_total 0 a with h | h
  · exact le_max_of_le_left h
  · exact le_max_of_le_right (EReal.neg_nonneg.mpr h)

/-! ## The rows of `x` -/

theorem xv_range {x : ℕ → EReal} (hx : ∀ k, max (x k) (-(x k)) ≤ Ideal.ofBits .bf16 0x7F7F#16) (b : ℕ) : 0 ≤ xv x b ∧ xv x b < Scale.pw 253 := by
  unfold xv top
  constructor
  · exact nonneg_c ((Finset.le_fold_max _).mpr (.inr ⟨0, Finset.mem_univ _, abs_nonneg' _⟩))
  · refine below (B := 255 * 2 ^ 120) ((Finset.fold_max_le _).mpr ⟨by rw [neg_inf]; exact bot_le, fun l _ => ?_⟩) (by norm_num)
    rw [← big_eq]
    exact hx _

theorem xs_eq {x : ℕ → EReal} (hx : ∀ k, max (x k) (-(x k)) ≤ Ideal.ofBits .bf16 0x7F7F#16) (b : ℕ) : xs x b = Scale.least (xv x b) :=
  (Scale.scale_eq (xv_range hx b).1 (xv_range hx b).2).1

theorem xc_eq {x : ℕ → EReal} (hx : ∀ k, max (x k) (-(x k)) ≤ Ideal.ofBits .bf16 0x7F7F#16) (k : ℕ) : xc x k = rxc x k := by
  unfold xc rxc
  rw [(Scale.scale_eq (xv_range hx _).1 (xv_range hx _).2).2]

theorem ro_eq {x : ℕ → EReal} (hx : ∀ k, max (x k) (-(x k)) ≤ Ideal.ofBits .bf16 0x7F7F#16) (w : ℕ → ℕ → EReal) (res : ℕ → EReal) (j : ℕ) :
    ro x w res j = rro x w res j := by
  unfold ro rro xd
  congr 1
  refine Finset.sum_congr rfl fun k _ => ?_
  rw [xc_eq hx, xs_eq hx]

/-! ## The normalised rows -/

theorem sum_blocks (f : ℕ → EReal) (N : ℕ) : ∑ j ∈ Finset.range (128 * N), f j = ∑ n ∈ Finset.range N, ∑ l : Fin 128, f (128 * n + l.val) := by
  induction N with
  | zero => simp
  | succ N ih => rw [Nat.mul_succ, Finset.sum_range_add, ih, Finset.sum_range_succ (fun n => ∑ l : Fin 128, f (128 * n + l.val)) N, Finset.sum_range fun l => f (128 * N + l)]

theorem sum_row (f : ℕ → EReal) : ∑ l : Fin 128, ∑ n ∈ Finset.range 64, f (128 * n + l.val) = ∑ j : Fin 8192, f j.val := by
  rw [Finset.sum_comm, ← sum_blocks, ← Finset.sum_range]

theorem rstd_eq (r : ℕ → EReal) : rstd r = rrstd r := by
  unfold rstd rrstd
  rw [sum_row fun j => r j * r j, n8192_eq, inv8192_eq]
  unfold Ideal.div
  rw [if_neg (by norm_num), EReal.coe_inv]

theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

/-- The factor is zero where the sum of squares is infinite, and a positive real otherwise. -/
theorem rstd_cases (r : ℕ → EReal) : (rstd r = 0) ∨ ∃ s : ℝ, 0 ≤ s ∧ (∑ j : Fin 8192, r j.val * r j.val) = (s : EReal)
    ∧ rstd r = (((Real.sqrt (s * 8192⁻¹ + 8796093 / 2 ^ 43))⁻¹ : ℝ) : EReal) := by
  unfold rstd
  rw [sum_row fun j => r j * r j, inv8192_eq, eps_eq]
  have h0 : 0 ≤ ∑ j : Fin 8192, r j.val * r j.val := Finset.sum_nonneg fun j _ => sq_nonneg' _
  generalize (∑ j : Fin 8192, r j.val * r j.val) = S at h0 ⊢
  induction S using EReal.rec with
  | bot => exact absurd h0 (by simp)
  | top =>
    left
    rw [EReal.top_mul_coe_of_pos (by norm_num), EReal.top_add_coe]
    rfl
  | coe s =>
    right
    have hs : 0 ≤ s := EReal.coe_nonneg.mp h0
    refine ⟨s, hs, rfl, ?_⟩
    rw [← EReal.coe_mul, ← EReal.coe_add]
    show (if s * 8192⁻¹ + 8796093 / 2 ^ 43 < 0 then (⊥ : EReal) else if s * 8192⁻¹ + 8796093 / 2 ^ 43 = 0 then ⊤ else _) = _
    have hp : 0 < s * 8192⁻¹ + 8796093 / 2 ^ 43 := by positivity
    rw [if_neg (not_lt.mpr hp.le), if_neg hp.ne']

theorem rstd_nonneg (r : ℕ → EReal) : 0 ≤ rstd r := by
  rcases rstd_cases r with h | ⟨s, _, _, h⟩
  · rw [h]
  · rw [h]; exact EReal.coe_nonneg.mpr (by positivity)

/-- A normalised entry is no larger than the root of the row's length. -/
theorem normed_le (r : ℕ → EReal) (j : Fin 8192) : ∃ q : ℝ, r j * rstd r = (q : EReal) ∧ |q| ≤ 91 := by
  rcases rstd_cases r with h | ⟨s, hs, hS, h⟩
  · exact ⟨0, by rw [h, mul_zero]; rfl, by norm_num⟩
  · have hj : r j * r j ≤ (s : EReal) := by
      rw [← hS]
      exact Finset.single_le_sum (f := fun j : Fin 8192 => r j.val * r j.val) (fun j _ => sq_nonneg' _) (Finset.mem_univ j)
    rw [h]
    generalize r j.val = a at hj ⊢
    induction a using EReal.rec with
    | bot => exact absurd hj (by simp)
    | top => exact absurd hj (by simp)
    | coe a =>
      rw [← EReal.coe_mul] at hj
      have ha : a * a ≤ s := EReal.coe_le_coe_iff.mp hj
      have hp : 0 < s * 8192⁻¹ + 8796093 / 2 ^ 43 := by positivity
      refine ⟨a * (Real.sqrt (s * 8192⁻¹ + 8796093 / 2 ^ 43))⁻¹, by rw [EReal.coe_mul], ?_⟩
      rw [abs_mul, abs_inv, abs_of_nonneg (Real.sqrt_nonneg _), ← div_eq_mul_inv, div_le_iff₀ (Real.sqrt_pos.mpr hp)]
      refine abs_le_of_sq_le_sq ?_ (by positivity)
      rw [mul_pow, Real.sq_sqrt hp.le]
      nlinarith

theorem mul_max (x y s : EReal) (hs : 0 ≤ s) : max x y * s = max (x * s) (y * s) := by
  rcases le_total x y with h | h
  · rw [max_eq_right h, max_eq_right (mul_le_mul_of_nonneg_right h hs)]
  · rw [max_eq_left h, max_eq_left (mul_le_mul_of_nonneg_right h hs)]

theorem abs_mul_nonneg (a s : EReal) (hs : 0 ≤ s) : max (a * s) (-(a * s)) = max a (-a) * s := by
  rw [mul_max _ _ _ hs, EReal.neg_mul]

/-- The largest by lanes, scaled, is the largest of the scaled. -/
theorem largest_eq (a : ℕ → EReal) (ha : ∀ j, 0 ≤ a j) (s : EReal) (hs : 0 ≤ s) :
    Finset.univ.fold max (Ideal.ofBits .f32 0xFF800000#32) (fun l : Fin 128 => (Finset.range 64).fold max 0 fun n => a (128 * n + l.val)) * s
      = Finset.univ.fold max (Ideal.ofBits .f32 0xFF800000#32) fun j : Fin 8192 => a j.val * s := by
  have e1 : Finset.univ.fold max (Ideal.ofBits .f32 0xFF800000#32) (fun l : Fin 128 => (Finset.range 64).fold max 0 fun n => a (128 * n + l.val))
      = Finset.univ.fold max 0 fun j : Fin 8192 => a j.val := by
    refine eq_of_forall_ge_iff fun c => ?_
    simp only [Finset.fold_max_le, neg_inf, bot_le, true_and, Finset.mem_univ, Finset.mem_range, forall_const]
    constructor
    · intro h
      refine ⟨(h 0).1, fun j => ?_⟩
      have := (h ⟨j.val % 128, by omega⟩).2 (j.val / 128) (by omega)
      dsimp only at this
      rwa [Nat.div_add_mod] at this
    · exact fun h l => ⟨h.1, fun n hn => h.2 ⟨128 * n + l.val, by omega⟩⟩
  have e2 : (Finset.univ.fold max (Ideal.ofBits .f32 0xFF800000#32) fun j : Fin 8192 => a j.val * s) = Finset.univ.fold max 0 fun j : Fin 8192 => a j.val * s := by
    refine eq_of_forall_ge_iff fun c => ?_
    simp only [Finset.fold_max_le, neg_inf, bot_le, true_and, Finset.mem_univ, forall_const]
    exact ⟨fun h => ⟨(mul_nonneg (ha 0) hs).trans (h 0), h⟩, fun h => h.2⟩
  rw [e1, e2]
  have h := Finset.fold_hom (op := max) (op' := max) (s := Finset.univ) (b := (0 : EReal)) (f := fun j : Fin 8192 => a j.val) (m := fun v => v * s)
    (fun x y => mul_max x y s hs)
  rw [zero_mul] at h
  exact h.symm

/-- The value of a row by its lanes, and of the row at once. -/
theorem yv_eq (r g : ℕ → EReal) : yv r g = ryv r g := by
  unfold yv ryv ny
  rw [← rstd_eq]
  have hs := rstd_nonneg r
  generalize rstd r = s at hs ⊢
  refine congrArg (fun v => v * Ideal.ofBits .f32 0x3B124925#32) ?_
  have e : ∀ j : ℕ, max (r j * s * g j) (-(r j * s * g j)) = max (r j * g j) (-(r j * g j)) * s := fun j => by
    rw [mul_right_comm, abs_mul_nonneg _ _ hs]
  simp only [e]
  exact largest_eq (fun j => max (r j * g j) (-(r j * g j))) (fun j => abs_nonneg' _) s hs

theorem ryv_range {r g : ℕ → EReal} (hg : ∀ j, max (g j) (-(g j)) ≤ Ideal.ofBits .bf16 0x7F7F#16) : 0 ≤ ryv r g ∧ ryv r g < Scale.pw 253 := by
  unfold ryv
  constructor
  · exact nonneg_c ((Finset.le_fold_max _).mpr (.inr ⟨0, Finset.mem_univ _, abs_nonneg' _⟩))
  · refine below (B := 91 * (255 * 2 ^ 120)) ((Finset.fold_max_le _).mpr ⟨by rw [neg_inf]; exact bot_le, fun j _ => ?_⟩) (by norm_num)
    obtain ⟨q, hq, hb⟩ := normed_le r j
    unfold ny
    rw [← rstd_eq, hq]
    have h := hg j.val
    rw [big_eq] at h
    generalize g j.val = b at h ⊢
    induction b using EReal.rec with
    | bot =>
      have h' := (le_max_right _ _).trans h
      rw [EReal.neg_bot] at h'
      exact absurd h' (not_le.mpr (EReal.coe_lt_top _))
    | top => exact absurd ((le_max_left _ _).trans h) (not_le.mpr (EReal.coe_lt_top _))
    | coe b =>
      have h1 : b ≤ 255 * 2 ^ 120 := EReal.coe_le_coe_iff.mp ((le_max_left _ _).trans h)
      have h2 : -b ≤ 255 * 2 ^ 120 := EReal.coe_le_coe_iff.mp (by rw [EReal.coe_neg]; exact (le_max_right _ _).trans h)
      have h3 : |q * b| ≤ 91 * (255 * 2 ^ 120) := by
        rw [abs_mul]
        exact mul_le_mul hb (abs_le'.mpr ⟨h1, h2⟩) (abs_nonneg _) (by norm_num)
      rw [← EReal.coe_mul, ← EReal.coe_neg]
      exact max_le (EReal.coe_le_coe_iff.mpr ((le_abs_self _).trans h3)) (EReal.coe_le_coe_iff.mpr ((neg_le_abs _).trans h3))

theorem ys_eq {r g : ℕ → EReal} (hg : ∀ j, max (g j) (-(g j)) ≤ Ideal.ofBits .bf16 0x7F7F#16) : ys r g = Scale.least (ryv r g) := by
  unfold ys
  rw [yv_eq]
  exact (Scale.scale_eq (ryv_range hg).1 (ryv_range hg).2).1

theorem yc_eq {r g : ℕ → EReal} (hg : ∀ j, max (g j) (-(g j)) ≤ Ideal.ofBits .bf16 0x7F7F#16) (j : ℕ) : yc r g j = ryc r g j := by
  unfold yc ryc ny
  rw [yv_eq, (Scale.scale_eq (ryv_range hg).1 (ryv_range hg).2).2, rstd_eq]

end Cert.Same
-- ==== Proof.Equal.lean ====
/- The kernel's five results are the reference's. -/
module

public import proofs.«01_k».proof.Defs
public import proofs.«01_k».proof.Proof.Host
public import proofs.«01_k».proof.Proof.Same
public import Idealize.ShloMosaic.Lib.ReduceAll

@[expose] public section

set_option maxRecDepth 16384

noncomputable section

open Idealize.ShloMosaic Idealize.ShloMosaic.TcCoe Idealize.ShloMosaic.Tactic Idealize.SL.Sem

namespace Cert.Pre_finite_inputs.Gen

open Cert.Pre_finite_inputs

theorem facts : Facts where
  bcast_S_S8x1536x2048 := by decide
  reducesTo_S8x1536x2048_S_d0_1_2 := by decide
  h_S_ := by decide
  bcast_S_S8192 := by decide
  reducesTo_S8192_S_d0 := by decide

/-- One entry's comparison. -/
theorem le_of_cmp {a b : EReal} (h : Ideal.cmp .ole (max a (-a)) b = 1#1) : max a (-a) ≤ b := by
  by_contra hc
  simp [Ideal.cmp, hc] at h

theorem both : ∀ a b : BitVec 1, IntOp.andi a b = 1#1 → a = 1#1 ∧ b = 1#1 := by decide

/-- What the precondition says of the arguments. -/
theorem bounds (x : FVec Ideal S8x1536x2048 .bf16) (w : FVec Ideal S2048x8192 .fp8e4m3) (s : FVec Ideal S16x64 .f32) (r : FVec Ideal S8x1536x8192 .bf16)
    (g : FVec Ideal S8192 .bf16) (h : (haveI := facts; fn (F := Ideal) x w s r g) = fun _ => 1#1) :
    (∀ i, max (x i) (-(x i)) ≤ Ideal.ofBits .bf16 0x7F7F#16) ∧ ∀ i, max (g i) (-(g i)) ≤ Ideal.ofBits .bf16 0x7F7F#16 := by
  have h1 := both _ _ (congrFun h fun a => Fin.elim0 a)
  exact ⟨fun i => le_of_cmp (Host.reduce_andi_all _ _ _ _ _ h1.1 i), fun i => le_of_cmp (Host.reduce_andi_all _ _ _ _ _ h1.2 i)⟩

end Cert.Pre_finite_inputs.Gen

namespace Cert.Equal

open Cert.Spec (nat2 ro xc xs xv yc ys)
open Cert.KernelIdeal Cert.KernelIdeal.Gen

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

theorem bound_nat2 {a b : ℕ} (A : (⟨2, ![a, b]⟩ : Shape).Idx → EReal) (h : ∀ i, max (A i) (-(A i)) ≤ Ideal.ofBits .bf16 0x7F7F#16) (r k : ℕ) :
    max (nat2 A r k) (-(nat2 A r k)) ≤ Ideal.ofBits .bf16 0x7F7F#16 := by
  unfold nat2
  split
  · exact h _
  · rw [neg_zero, max_self, Cert.Same.big_eq]
    exact EReal.coe_nonneg.mpr (by norm_num)

/-- The first argument's entries. -/
abbrev a0 (i : S8x1536x2048.Idx) : EReal := m ((c.tc : Thread nD τ).loc main_arg0) i

/-- The last argument's entries. -/
abbrev a4 (i : S8192.Idx) : EReal := m ((c.tc : Thread nD τ).loc main_arg4) i

theorem x_le (h : ∀ i, max (a0 m c i) (-(a0 m c i)) ≤ Ideal.ofBits .bf16 0x7F7F#16) (r k : ℕ) : max (gx m c r k) (-(gx m c r k)) ≤ Ideal.ofBits .bf16 0x7F7F#16 := by
  unfold gx
  refine bound_nat2 _ (fun i => ?_) r k
  rw [V_v3]
  exact h _

theorem g_le (h : ∀ i, max (a4 m c i) (-(a4 m c i)) ≤ Ideal.ofBits .bf16 0x7F7F#16) (r k : ℕ) : max (gg m c r k) (-(gg m c r k)) ≤ Ideal.ofBits .bf16 0x7F7F#16 := by
  unfold gg
  refine bound_nat2 _ (fun i => ?_) r k
  rw [V_v6]
  exact h _

theorem x_eq (h : m' ((c.tc : Thread Cert.ReferenceIdeal.nD Cert.ReferenceIdeal.τ).loc Cert.ReferenceIdeal.main_arg0) = m ((c.tc : Thread nD τ).loc main_arg0)) :
    gx m c = nat2 (m := 12288) (n := 2048) (Cert.ReferenceIdeal.Gen.V m' c Cert.ReferenceIdeal.main_v0) := by
  unfold gx
  rw [V_v3, Cert.ReferenceIdeal.Gen.V_v0]
  exact congrArg (fun a : Vec Ideal S8x1536x2048 .bf16 => nat2 (m := 12288) (n := 2048) (shapeCast S12288x2048 a shapeCasts_S8x1536x2048_S12288x2048)) h.symm

theorem r_eq (h : m' ((c.tc : Thread Cert.ReferenceIdeal.nD Cert.ReferenceIdeal.τ).loc Cert.ReferenceIdeal.main_arg3) = m ((c.tc : Thread nD τ).loc main_arg3)) :
    gr m c = nat2 (m := 12288) (n := 8192) (Cert.ReferenceIdeal.Gen.V m' c Cert.ReferenceIdeal.main_v1) := by
  unfold gr
  rw [V_v5, Cert.ReferenceIdeal.Gen.V_v1]
  exact congrArg (fun a : Vec Ideal S8x1536x8192 .bf16 => nat2 (m := 12288) (n := 8192) (shapeCast S12288x8192 a shapeCasts_S8x1536x8192_S12288x8192)) h.symm

theorem g_eq (h : m' ((c.tc : Thread Cert.ReferenceIdeal.nD Cert.ReferenceIdeal.τ).loc Cert.ReferenceIdeal.main_arg4) = m ((c.tc : Thread nD τ).loc main_arg4)) :
    gg m c = nat2 (m := 1) (n := 8192) (Cert.ReferenceIdeal.Gen.V m' c Cert.ReferenceIdeal.main_v2) := by
  unfold gg
  rw [V_v6, Cert.ReferenceIdeal.Gen.V_v2]
  exact congrArg (fun a : Vec Ideal S8192 .bf16 => nat2 (m := 1) (n := 8192) (shapeCast S1x8192 a shapeCasts_S8192_S1x8192)) h.symm

theorem w_eq (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    gw m c = Cert.ReferenceIdeal.Gen.wf (Cert.ReferenceIdeal.Gen.V m' c Cert.ReferenceIdeal.main_arg1) (Cert.ReferenceIdeal.Gen.V m' c Cert.ReferenceIdeal.main_arg2) := by
  rw [gw_eq, Cert.ReferenceIdeal.Gen.V_main_arg1, Cert.ReferenceIdeal.Gen.V_main_arg2]
  exact congrArg₂ (fun (a : Vec Ideal S2048x8192 .fp8e4m3) (b : Vec Ideal S16x64 .f32) => Cert.ReferenceIdeal.Gen.wf a b) h1.symm h2.symm

/-- The two programs' arguments on a chip agree. -/
def Agree : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)

variable (hx : ∀ r k, max (gx m c r k) (-(gx m c r k)) ≤ Ideal.ofBits .bf16 0x7F7F#16)
  (hg : ∀ r k, max (gg m c r k) (-(gg m c r k)) ≤ Ideal.ofBits .bf16 0x7F7F#16) (h : Agree m m' c)

include hx h in
theorem row_eq (R : Fin 12288) : ro (gx m c R) (gw m c) (gr m c R) = Cert.ReferenceIdeal.Gen.row m' c R := by
  funext j
  rw [Cert.Same.ro_eq (hx R), x_eq m m' c h.1, w_eq m m' c h.2.1 h.2.2.1, r_eq m m' c h.2.2.2.1]
  rfl

include hx h in
theorem result_0 : (dats m 0 c).arrAt 4 cfg0.N = (Cert.ReferenceIdeal.Gen.dats m' 0 c).arrAt 5 Cert.ReferenceIdeal.cfg0.N := by
  funext i
  obtain ⟨R, j, rfl⟩ : ∃ (R : Fin 12288) (j : Fin 8192), i = ix2 R j := ⟨i 0, i 1, eq_ix2 i⟩
  refine (array_4 m c _ _).trans (Eq.trans ?_ (Cert.ReferenceIdeal.Gen.array_5 m' c _ _).symm)
  rw [row_eq m m' c hx h]

include hx h in
theorem result_1 : (dats m 0 c).arrAt 5 cfg0.N = (Cert.ReferenceIdeal.Gen.dats m' 0 c).arrAt 6 Cert.ReferenceIdeal.cfg0.N := by
  funext i
  obtain ⟨R, j, rfl⟩ : ∃ (R : Fin 12288) (j : Fin 2048), i = ix2 R j := ⟨i 0, i 1, eq_ix2 i⟩
  refine (array_5 m c _ _).trans (Eq.trans ?_ (Cert.ReferenceIdeal.Gen.array_6 m' c _ _).symm)
  rw [Cert.Same.xc_eq (hx _), x_eq m m' c h.1]

include hx h in
theorem result_2 : (dats m 0 c).arrAt 6 cfg0.N = (Cert.ReferenceIdeal.Gen.dats m' 0 c).arrAt 7 Cert.ReferenceIdeal.cfg0.N := by
  funext i
  obtain ⟨R, j, rfl⟩ : ∃ (R : Fin 12288) (j : Fin 16), i = ix2 R j := ⟨i 0, i 1, eq_ix2 i⟩
  refine (array_6 m c _ _).trans (Eq.trans ?_ (Cert.ReferenceIdeal.Gen.array_7 m' c _ _).symm)
  rw [Cert.Same.xs_eq (hx _), x_eq m m' c h.1]

include hx hg h in
theorem result_3 : (dats m 0 c).arrAt 7 cfg0.N = (Cert.ReferenceIdeal.Gen.dats m' 0 c).arrAt 8 Cert.ReferenceIdeal.cfg0.N := by
  funext i
  obtain ⟨R, j, rfl⟩ : ∃ (R : Fin 12288) (j : Fin 8192), i = ix2 R j := ⟨i 0, i 1, eq_ix2 i⟩
  refine (array_7 m c _ _).trans (Eq.trans ?_ (Cert.ReferenceIdeal.Gen.array_8 m' c _ _).symm)
  rw [Cert.Same.yc_eq (hg 0), row_eq m m' c hx h, g_eq m m' c h.2.2.2.2]

include hx hg h in
theorem result_4 : (dats m 0 c).arrAt 8 cfg0.N = (Cert.ReferenceIdeal.Gen.dats m' 0 c).arrAt 9 Cert.ReferenceIdeal.cfg0.N := by
  funext i
  obtain ⟨R, rfl⟩ : ∃ R : Fin 12288, i = ix2 R (0 : Fin 1) :=
    ⟨i 0, (eq_ix2 i).trans (congrArg (ix2 (i 0)) (Subsingleton.elim (α := Fin 1) (i 1) 0))⟩
  refine (array_8 m c _).trans (Eq.trans ?_ (Cert.ReferenceIdeal.Gen.array_9 m' c _).symm)
  rw [Cert.Same.ys_eq (hg 0), row_eq m m' c hx h, g_eq m m' c h.2.2.2.2]

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hp ha
  have hx : ∀ c r k, max (gx m c r k) (-(gx m c r k)) ≤ Ideal.ofBits .bf16 0x7F7F#16 := fun c =>
    x_le m c (Cert.Pre_finite_inputs.Gen.bounds _ _ _ _ _ (hp c)).1
  have hg : ∀ c r k, max (gg m c r k) (-(gg m c r k)) ≤ Ideal.ofBits .bf16 0x7F7F#16 := fun c =>
    g_le m c (Cert.Pre_finite_inputs.Gen.bounds _ _ _ _ _ (hp c)).2
  refine ⟨fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, Cert.KernelIdeal.Value.run_blocks m g, ?_⟩
  refine (θ_run _ _ _).mono (fun r hr c => ?_) (Cert.ReferenceIdeal.Value.run_blocks m' g')
  obtain ⟨h0, h1, h2, h3, h4, hk⟩ := hr c
  exact ⟨h0.trans (result_0 m m' c (hx c) (ha c)).symm, h1.trans (result_1 m m' c (hx c) (ha c)).symm, h2.trans (result_2 m m' c (hx c) (ha c)).symm,
    h3.trans (result_3 m m' c (hx c) (hg c) (ha c)).symm, h4.trans (result_4 m m' c (hx c) (hg c) (ha c)).symm, hk⟩

end Cert.Equal
-- ==== Proof.lean ====
/- The proof of the claims: frames of the three programs, the ideal program being the program itself, and the five results being the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Equal.algebraic⟩

end Cert.Proof

end
